-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S8x512 : Shape := ⟨2, ![8, 512]⟩
abbrev S8x1x512 : Shape := ⟨3, ![8, 1, 512]⟩
abbrev S8 : Shape := ⟨1, ![8]⟩
abbrev S_ : Shape := ⟨0, ![]⟩
abbrev S512 : Shape := ⟨1, ![512]⟩
abbrev S1x512 : Shape := ⟨2, ![1, 512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .ne v5 c0_i32_0
  v6

def k0_dev1 : Nat :=
  let c0_i32_104 : BitVec 32 := 0#32
  let c0_i32_102 : BitVec 32 := 0#32
  let c1_i32_103 : BitVec 32 := 1#32
  let v160 : BitVec 32 := Scalar.muli c0_i32_102 c1_i32_103
  let v161 : BitVec 32 := Scalar.addi c0_i32_104 v160
  v161.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .sgt v2 c1_i32_1
  let v8 : BitVec 32 := Scalar.extui v7
  let c0_i32_2 : BitVec 32 := 0#32
  let v9 : BitVec 1 := Scalar.cmpi .ne v8 c0_i32_2
  v9

def k0_dev2 : Nat :=
  let c0_i32_104 : BitVec 32 := 0#32
  let c1_i32_102 : BitVec 32 := 1#32
  let c1_i32_103 : BitVec 32 := 1#32
  let v160 : BitVec 32 := Scalar.muli c1_i32_102 c1_i32_103
  let v161 : BitVec 32 := Scalar.addi c0_i32_104 v160
  v161.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .sgt v2 c2_i32
  let v11 : BitVec 32 := Scalar.extui v10
  let c0_i32_3 : BitVec 32 := 0#32
  let v12 : BitVec 1 := Scalar.cmpi .ne v11 c0_i32_3
  v12

def k0_dev3 : Nat :=
  let c0_i32_104 : BitVec 32 := 0#32
  let c2_i32_102 : BitVec 32 := 2#32
  let c1_i32_103 : BitVec 32 := 1#32
  let v160 : BitVec 32 := Scalar.muli c2_i32_102 c1_i32_103
  let v161 : BitVec 32 := Scalar.addi c0_i32_104 v160
  v161.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .sgt v2 c3_i32
  let v14 : BitVec 32 := Scalar.extui v13
  let c0_i32_4 : BitVec 32 := 0#32
  let v15 : BitVec 1 := Scalar.cmpi .ne v14 c0_i32_4
  v15

def k0_dev4 : Nat :=
  let c0_i32_104 : BitVec 32 := 0#32
  let c3_i32_102 : BitVec 32 := 3#32
  let c1_i32_103 : BitVec 32 := 1#32
  let v160 : BitVec 32 := Scalar.muli c3_i32_102 c1_i32_103
  let v161 : BitVec 32 := Scalar.addi c0_i32_104 v160
  v161.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .sgt v2 c4_i32
  let v17 : BitVec 32 := Scalar.extui v16
  let c0_i32_5 : BitVec 32 := 0#32
  let v18 : BitVec 1 := Scalar.cmpi .ne v17 c0_i32_5
  v18

def k0_dev5 : Nat :=
  let c0_i32_104 : BitVec 32 := 0#32
  let c4_i32_102 : BitVec 32 := 4#32
  let c1_i32_103 : BitVec 32 := 1#32
  let v160 : BitVec 32 := Scalar.muli c4_i32_102 c1_i32_103
  let v161 : BitVec 32 := Scalar.addi c0_i32_104 v160
  v161.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .sgt v2 c5_i32
  let v20 : BitVec 32 := Scalar.extui v19
  let c0_i32_6 : BitVec 32 := 0#32
  let v21 : BitVec 1 := Scalar.cmpi .ne v20 c0_i32_6
  v21

def k0_dev6 : Nat :=
  let c0_i32_104 : BitVec 32 := 0#32
  let c5_i32_102 : BitVec 32 := 5#32
  let c1_i32_103 : BitVec 32 := 1#32
  let v160 : BitVec 32 := Scalar.muli c5_i32_102 c1_i32_103
  let v161 : BitVec 32 := Scalar.addi c0_i32_104 v160
  v161.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .sgt v2 c6_i32
  let v23 : BitVec 32 := Scalar.extui v22
  let c0_i32_7 : BitVec 32 := 0#32
  let v24 : BitVec 1 := Scalar.cmpi .ne v23 c0_i32_7
  v24

def k0_dev7 : Nat :=
  let c0_i32_104 : BitVec 32 := 0#32
  let c6_i32_102 : BitVec 32 := 6#32
  let c1_i32_103 : BitVec 32 := 1#32
  let v160 : BitVec 32 := Scalar.muli c6_i32_102 c1_i32_103
  let v161 : BitVec 32 := Scalar.addi c0_i32_104 v160
  v161.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v60 : BitVec 32 := Scalar.addi v2 c1_i32_31
  let c8_i32_32 : BitVec 32 := 8#32
  let v61 : BitVec 1 := Scalar.cmpi .slt v60 c8_i32_32
  let v62 : BitVec 32 := Scalar.extui v61
  let c0_i32_33 : BitVec 32 := 0#32
  let v63 : BitVec 1 := Scalar.cmpi .ne v62 c0_i32_33
  v63

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v160 : BitVec 32 := Scalar.addi v2 c1_i32_101
  let c1_i32_103 : BitVec 32 := 1#32
  let v161 : BitVec 32 := Scalar.muli v160 c1_i32_103
  let v162 : BitVec 32 := Scalar.addi c0_i32_104 v161
  v162.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_34 : BitVec 32 := 2#32
  let v64 : BitVec 32 := Scalar.addi v2 c2_i32_34
  let c8_i32_35 : BitVec 32 := 8#32
  let v65 : BitVec 1 := Scalar.cmpi .slt v64 c8_i32_35
  let v66 : BitVec 32 := Scalar.extui v65
  let c0_i32_36 : BitVec 32 := 0#32
  let v67 : BitVec 1 := Scalar.cmpi .ne v66 c0_i32_36
  v67

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_101 : BitVec 32 := 2#32
  let v160 : BitVec 32 := Scalar.addi v2 c2_i32_101
  let c1_i32_103 : BitVec 32 := 1#32
  let v161 : BitVec 32 := Scalar.muli v160 c1_i32_103
  let v162 : BitVec 32 := Scalar.addi c0_i32_104 v161
  v162.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_37 : BitVec 32 := 3#32
  let v68 : BitVec 32 := Scalar.addi v2 c3_i32_37
  let c8_i32_38 : BitVec 32 := 8#32
  let v69 : BitVec 1 := Scalar.cmpi .slt v68 c8_i32_38
  let v70 : BitVec 32 := Scalar.extui v69
  let c0_i32_39 : BitVec 32 := 0#32
  let v71 : BitVec 1 := Scalar.cmpi .ne v70 c0_i32_39
  v71

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v160 : BitVec 32 := Scalar.addi v2 c3_i32_101
  let c1_i32_103 : BitVec 32 := 1#32
  let v161 : BitVec 32 := Scalar.muli v160 c1_i32_103
  let v162 : BitVec 32 := Scalar.addi c0_i32_104 v161
  v162.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_40 : BitVec 32 := 4#32
  let v72 : BitVec 32 := Scalar.addi v2 c4_i32_40
  let c8_i32_41 : BitVec 32 := 8#32
  let v73 : BitVec 1 := Scalar.cmpi .slt v72 c8_i32_41
  let v74 : BitVec 32 := Scalar.extui v73
  let c0_i32_42 : BitVec 32 := 0#32
  let v75 : BitVec 1 := Scalar.cmpi .ne v74 c0_i32_42
  v75

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev11 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_101 : BitVec 32 := 4#32
  let v160 : BitVec 32 := Scalar.addi v2 c4_i32_101
  let c1_i32_103 : BitVec 32 := 1#32
  let v161 : BitVec 32 := Scalar.muli v160 c1_i32_103
  let v162 : BitVec 32 := Scalar.addi c0_i32_104 v161
  v162.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_43 : BitVec 32 := 5#32
  let v76 : BitVec 32 := Scalar.addi v2 c5_i32_43
  let c8_i32_44 : BitVec 32 := 8#32
  let v77 : BitVec 1 := Scalar.cmpi .slt v76 c8_i32_44
  let v78 : BitVec 32 := Scalar.extui v77
  let c0_i32_45 : BitVec 32 := 0#32
  let v79 : BitVec 1 := Scalar.cmpi .ne v78 c0_i32_45
  v79

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v160 : BitVec 32 := Scalar.addi v2 c5_i32_101
  let c1_i32_103 : BitVec 32 := 1#32
  let v161 : BitVec 32 := Scalar.muli v160 c1_i32_103
  let v162 : BitVec 32 := Scalar.addi c0_i32_104 v161
  v162.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_46 : BitVec 32 := 6#32
  let v80 : BitVec 32 := Scalar.addi v2 c6_i32_46
  let c8_i32_47 : BitVec 32 := 8#32
  let v81 : BitVec 1 := Scalar.cmpi .slt v80 c8_i32_47
  let v82 : BitVec 32 := Scalar.extui v81
  let c0_i32_48 : BitVec 32 := 0#32
  let v83 : BitVec 1 := Scalar.cmpi .ne v82 c0_i32_48
  v83

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev13 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_101 : BitVec 32 := 6#32
  let v160 : BitVec 32 := Scalar.addi v2 c6_i32_101
  let c1_i32_103 : BitVec 32 := 1#32
  let v161 : BitVec 32 := Scalar.muli v160 c1_i32_103
  let v162 : BitVec 32 := Scalar.addi c0_i32_104 v161
  v162.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_49 : BitVec 32 := 7#32
  let v84 : BitVec 32 := Scalar.addi v2 c7_i32_49
  let c8_i32_50 : BitVec 32 := 8#32
  let v85 : BitVec 1 := Scalar.cmpi .slt v84 c8_i32_50
  let v86 : BitVec 32 := Scalar.extui v85
  let c0_i32_51 : BitVec 32 := 0#32
  let v87 : BitVec 1 := Scalar.cmpi .ne v86 c0_i32_51
  v87

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_101 : BitVec 32 := 7#32
  let v160 : BitVec 32 := Scalar.addi v2 c7_i32_101
  let c1_i32_103 : BitVec 32 := 1#32
  let v161 : BitVec 32 := Scalar.muli v160 c1_i32_103
  let v162 : BitVec 32 := Scalar.addi c0_i32_104 v161
  v162.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S_, .f32⟩
  | .hbm, ⟨3, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
# `Protocol`: the exclusive exchange of row sums, as a schedule of semaphore rounds

Each device `c` sums the columns of its own block of `x` into one row and sends that row to every device AFTER it
(`d > c`), into row `c` of that device's gather buffer. Before anything is sent to it, a device signals every device
BEFORE it; the barrier waits of a device collect those signals, so a sender knows that the rows it writes are free.

A duty of a semaphore cell is named by the PEER device:
* the barrier cell of `c` has one duty, of one unit, for each `d > c`; it hands over row `c` of `d`'s gather buffer;
* the `j`-th receive cell of `c` has, when `j < c`, the one duty `j`, of one row's credit; it hands back row `j` of the
  gather buffer, now holding `j`'s row of sums;
* the send cell of `c` for destination `d` has, when `c < d`, the one duty `d`; it hands back the share of the sent row
  that the transfer was reading.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Transfers
public import Idealize.ShloMosaic.Lib.Exec.Geometry
public import Idealize.ShloMosaic.Lib.Tactic

@[expose] public section

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

/-! ## The resources: the pipeline library's copy of the rounds state and this exchange's own -/

/-- The rounds state of the exchange, with duties named by devices. -/
abbrev UB : Type := URounds (GSem nD τ sig) (Dev nD)
/-- The pipeline's rounds state together with the exchange's. -/
abbrev UU : Type := UR sig nD τ × UB

local notation "𝕄" => MT nD τ sig Unit (Elt F) ℕ UU ℕ

/-- The pipeline's part of the resources. -/
abbrev EP : Emb (UR sig nD τ) (MT nD τ sig Unit (Elt F) ℕ UU ℕ) := embL
/-- The exchange's part of the resources. -/
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Buffers and semaphores -/

/-- The device's block of `x`. -/
abbrev xM : Memref sig .tc .vmem S512x512 .f32 := Memref.whole cc0_stg0_0
/-- The result buffer. -/
abbrev oM : Memref sig .tc .vmem S512x512 .f32 := Memref.whole cc0_stg1_0
/-- The send buffer. -/
abbrev bM : Memref sig .tc .vmem S8x512 .f32 := Memref.whole cc0_scratch0
/-- The gather buffer. -/
abbrev gM : Memref sig .tc .vmem S8x1x512 .f32 := Memref.whole cc0_scratch1

/-- Row `j` lies inside the gather buffer. -/
theorem row_inb (j : Dev nD) : ∀ a, (![j.val, 0, 0] : Fin 3 → Nat) a + S1x1x512.size a ≤ S8x1x512.size a := by
  revert j; decide

/-- The rectangle of row `j` of the gather buffer. -/
abbrev rowR (j : Dev nD) : Rect S8x1x512 := Rect.unit ![j.val, 0, 0] S1x1x512.size (row_inb j)
/-- The rectangle of the sent row. -/
abbrev srcR : Rect S8x512 := Rect.unit ![0, 0] S1x512.size inb_S8x512_S1x512_0_0

/-- Row `j` of a gather buffer, seen as a `1 × 512` block. -/
abbrev rowM (j : Dev nD) : Memref sig .tc .vmem S1x512 .f32 :=
  (gM.slice (rowR j) (fun _ => rfl)).squeeze S1x512 squeezes_S1x1x512_S1x512
/-- The row every transfer reads: row 0 of the send buffer. -/
abbrev srcM : Memref sig .tc .vmem S1x512 .f32 := bM.slice srcR (fun _ => rfl)

/-- The barrier semaphore. -/
abbrev barS : Sem sig := (SemArray.scalar (sig.barrier 0 rfl) : Sems sig S_).sem
/-- The `k`-th send semaphore. -/
def sendSem (k : Fin 8) : DmaSem sig := ⟨2 + k.val, by have := k.isLt; show _ < 18; omega⟩
/-- The `k`-th receive semaphore. -/
def recvSem (k : Fin 8) : DmaSem sig := ⟨10 + k.val, by have := k.isLt; show _ < 18; omega⟩

/-- Send semaphores with different numbers are different. -/
theorem sendSem_inj {a b : Fin 8} : sendSem a = sendSem b ↔ a = b := by revert a b; decide
/-- Receive semaphores with different numbers are different. -/
theorem recvSem_inj {a b : Fin 8} : recvSem a = recvSem b ↔ a = b := by revert a b; decide
/-- No send semaphore is a receive semaphore. -/
theorem send_ne_recv (a b : Fin 8) : sendSem a ≠ recvSem b := by revert a b; decide

/-- The `k`-th of the send semaphores is what the kernel's slice of its array at `k` names. -/
theorem sem_send (off : Fin 1 → Nat) (k : Fin 8) (hk : off = ![k.val]) (h : ∀ a, off a + S1.size a ≤ S8.size a) :
    ((cc0_scratch2.slice (Rect.unit off S1.size h)).squeeze S_ squeezes_S1_S_).sem = sendSem k := by
  subst hk; revert k; decide
/-- Likewise the receive semaphores. -/
theorem sem_recv (off : Fin 1 → Nat) (k : Fin 8) (hk : off = ![k.val]) (h : ∀ a, off a + S1.size a ≤ S8.size a) :
    ((cc0_scratch3.slice (Rect.unit off S1.size h)).squeeze S_ squeezes_S1_S_).sem = recvSem k := by
  subst hk; revert k; decide

/-- The send semaphore device `c` uses for destination `d`: the `(d - c)`-th, counted from one, around the ring. -/
def slot (c d : Dev nD) : Fin 8 := ⟨(d.val + 7 - c.val) % 8, Nat.mod_lt _ (by decide)⟩
/-- The destination that the `k`-th send semaphore of `c` stands for. -/
def unslot (c : Dev nD) (k : Fin 8) : Dev nD := ⟨(k.val + c.val + 1) % 8, Nat.mod_lt _ (by decide)⟩
/-- The slot of a destination leads back to the destination. -/
theorem unslot_slot (c d : Dev nD) : unslot c (slot c d) = d := by revert c d; decide
/-- The destination of a slot leads back to the slot. -/
theorem slot_unslot (c : Dev nD) (k : Fin 8) : slot c (unslot c k) = k := by revert c k; decide
/-- The slots of a device and the destinations, one to one. -/
def slotEquiv (c : Dev nD) : Dev nD ≃ Fin 8 := ⟨slot c, unslot c, unslot_slot c, slot_unslot c⟩
/-- Different destinations have different slots. -/
theorem slot_inj {c d d' : Dev nD} : slot c d = slot c d' ↔ d = d' := (slotEquiv c).injective.eq_iff

/-- The barrier cell of device `c`. -/
abbrev barCell (c : Dev nD) : GSem nD τ sig := ((c : Thread nD τ), .reg barS)
/-- The send cell of device `c` for destination `d`. -/
abbrev sendCell (c d : Dev nD) : GSem nD τ sig := ((c : Thread nD τ), .dma (sendSem (slot c d)))
/-- The receive cell of device `c` for sender `j`. -/
abbrev recvCell (c j : Dev nD) : GSem nD τ sig := ((c : Thread nD τ), .dma (recvSem j))

/-- The credit of one row. -/
abbrev N : ℕ := (rowM 0).view.dmaCredit
/-- The credit of one row is positive. -/
theorem N_pos : 0 < N := View.dmaCredit_pos _ (by decide)
/-- A row of the gather buffer has the credit of one row. -/
theorem N_row (j : Dev nD) : (rowM j).view.dmaCredit = N := rfl
/-- The sent row has the credit of one row. -/
theorem N_src : srcM.view.dmaCredit = N := rfl

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The row device `c` sends: the column sums of its block. -/
def sentRow (c : Dev nD) : FVec F S1x512 .f32 := k0_pay2 (k0_pay1 (xstg m ρ c))

/-- A gather buffer every row of which has arrived: row `j` holds the row of sums of device `j`. -/
def gl : (cc0_scratch1 : Ref sig .tc).ty.Contents (Elt F) := fun i => sentRow m ρ (i 0) (ix2 0 (i 2))
/-- A send buffer every row of which is the row of sums of device `c` (only its row 0 matters). -/
def sb (c : Dev nD) : (cc0_scratch0 : Ref sig .tc).ty.Contents (Elt F) := fun i => sentRow m ρ c (ix2 0 (i 1))

/-- Row `j` of device `c`'s gather buffer holding (its part of) `f`. -/
def rowPts (c j : Dev nD) (f : (cc0_scratch1 : Ref sig .tc).ty.Contents (Elt F)) : sProp 𝕄 :=
  (rowM j).view.loc (c : Thread nD τ) ↦[(rowM j).view.set]{fullShare} f
/-- A share `q` of row 0 of device `c`'s send buffer holding (its part of) `f`. -/
def srcPts (c : Dev nD) (q : PosShare TreeShare) (f : (cc0_scratch0 : Ref sig .tc).ty.Contents (Elt F)) : sProp 𝕄 :=
  srcM.view.loc (c : Thread nD τ) ↦[srcM.view.set]{q} f

/-- The share of the sent row that the transfer to `d` reads under. -/
abbrev tok (d : Dev nD) : PosShare TreeShare := Transfers.shareTok fullShare 8 d

omit [FloatOps F] in
/-- A row of the gather buffer may be handed over by a cell. -/
instance rowPts_storable (c j : Dev nD) (f) : BI.Storable (upEmb : UEmb _ 𝕄) (rowPts (F := F) c j f) := by
  unfold rowPts; infer_instance
omit [FloatOps F] in
/-- A share of the sent row may be handed over by a cell. -/
instance srcPts_storable (c : Dev nD) (q f) : BI.Storable (upEmb : UEmb _ 𝕄) (srcPts (F := F) c q f) := by
  unfold srcPts; infer_instance

/-- Membership in row `j`, by the first coordinate. -/
theorem mem_row (j : Dev nD) (i : S8x1x512.Idx) : i ∈ (rowM j).view.set ↔ (i 0).val = j.val := by
  rw [Memref.set_view_squeeze]
  rw [show (gM.slice (rowR j) (fun _ => rfl)).view.set = (rowR j).set from View.set_slice_whole _ _]
  rw [Rect.mem_set_unit]
  constructor
  · intro h
    have := h 0
    simp only [Matrix.cons_val_zero] at this
    have e : S1x1x512.size 0 = 1 := rfl
    omega
  · intro h a
    match a with
    | ⟨0, _⟩ => show j.val ≤ (i 0).val ∧ (i 0).val < j.val + 1; omega
    | ⟨1, _⟩ => exact ⟨Nat.zero_le _, by show (i 1).val < 0 + 1; have := (i 1).isLt; simpa using this⟩
    | ⟨2, _⟩ => exact ⟨Nat.zero_le _, by show (i 2).val < 0 + 512; have := (i 2).isLt; simpa using this⟩

/-- Membership in the sent row: the first coordinate is zero. -/
theorem mem_src (i : S8x512.Idx) : i ∈ srcM.view.set ↔ (i 0).val = 0 := by
  rw [show srcM.view.set = srcR.set from View.set_slice_whole _ _, Rect.mem_set_unit]
  constructor
  · intro h
    have := h 0
    simp only [Matrix.cons_val_zero] at this
    have e : S1x512.size 0 = 1 := rfl
    omega
  · intro h a
    match a with
    | ⟨0, _⟩ => show 0 ≤ (i 0).val ∧ (i 0).val < 0 + 1; omega
    | ⟨1, _⟩ => exact ⟨Nat.zero_le _, by show (i 1).val < 0 + 512; have := (i 1).isLt; simpa using this⟩

omit [FloatOps F] in
/-- The element of a gather buffer that coordinate `(a, b)` of its row `j` names. -/
theorem row_emb (j : Dev nD) (a : Fin 1) (b : Fin 512) : (rowM j).view.emb (ix2 a b) = (ix3 j 0 b : S8x1x512.Idx) := by
  show (rowR j).emb (Shape.reshapeEquiv _ (ix2 a b)) = _
  rw [ValueIdx.reshapeEquiv_ix2_1ab]
  funext d
  match d with
  | ⟨0, _⟩ => exact Fin.ext (by show j.val + 1 * 0 = j.val; omega)
  | ⟨1, _⟩ => exact Fin.ext (by show 0 + 1 * a.val = 0; omega)
  | ⟨2, _⟩ => exact Fin.ext (by show 0 + 1 * b.val = b.val; omega)

omit [FloatOps F] in
/-- Element `b` of the sent row is element `(0, b)` of the send buffer. -/
theorem src_emb (a : Fin 1) (b : Fin 512) : srcM.view.emb (ix2 a b) = (ix2 0 b : S8x512.Idx) := by
  show srcR.emb (ix2 a b) = _
  funext d
  match d with
  | ⟨0, _⟩ => exact Fin.ext (by show 0 + 1 * a.val = 0; omega)
  | ⟨1, _⟩ => exact Fin.ext (by show 0 + 1 * b.val = b.val; omega)

/-- What a transfer from `c` leaves in row `c` of its destination is row `c` of the fully arrived gather buffer. -/
theorem landed_eq (c d : Dev nD) (fd : (cc0_scratch1 : Ref sig .tc).ty.Contents (Elt F)) :
    (rowPts d c ((rowM c).view.write (Elt F) fd (srcM.view.read (Elt F) (sb m ρ c)) Finset.univ) : sProp 𝕄)
      = rowPts d c (gl m ρ) := by
  unfold rowPts
  refine pointsTo_congr fun i hi => ?_
  rw [View.set, Finset.mem_map] at hi
  obtain ⟨x, -, rfl⟩ := hi
  rw [View.write_emb_of_mem _ _ (Finset.mem_univ x)]
  obtain ⟨a, b, rfl⟩ : ∃ (a : Fin 1) (b : Fin 512), x = ix2 a b := ⟨x 0, x 1, ValueIdx.eq_ix2 x⟩
  rw [View.read_apply, cast_cast, row_emb, src_emb]
  rfl

/-! ## The schedule -/

/-- Duty `d` exists at cell `g`. -/
def Pays (g : GSem nD τ sig) (d : Dev nD) : Prop :=
  (g.2 = .reg barS ∧ g.1.1.val < d.val) ∨ (g.2 = .dma (recvSem d) ∧ d.val < g.1.1.val)
    ∨ (g.2 = .dma (sendSem (slot g.1.1 d)) ∧ g.1.1.val < d.val)

instance (g : GSem nD τ sig) : DecidablePred (Pays g) := fun d => by unfold Pays; infer_instance

/-- One round: the duties above; one unit at a barrier cell, a row's credit at a transfer's. -/
def Rd : Rounds.Schedule (GSem nD τ sig) (Dev nD) 𝕄 where
  duties g r := if r = 0 ∧ g.1.2 = .tc then Finset.univ.filter (Pays g) else ∅
  unitless _ := False
  amount g _ _ := if g.2 = .reg barS then 1 else N
  payload g _ d :=
    if g.2 = .reg barS then iprop(∃ f, rowPts d g.1.1 f)
    else if g.2 = .dma (recvSem d) then rowPts g.1.1 d (gl m ρ)
    else if g.2 = .dma (sendSem (slot g.1.1 d)) then srcPts g.1.1 (tok d) (sb m ρ g.1.1)
    else iprop(emp)
  amount_pos g _ _ _ := by
    by_cases h : g.2 = .reg barS
    · rw [if_pos h]; exact Nat.one_pos
    · rw [if_neg h]; exact N_pos

/-- Every payload of the schedule may be kept by its cell. -/
instance Rd_payload_storable (g : GSem nD τ sig) (r : ℕ) (d : Dev nD) :
    BI.Storable (upEmb : UEmb _ 𝕄) ((Rd (F := F) m ρ).payload g r d) := by
  show BI.Storable upEmb (if g.2 = .reg barS then iprop(∃ f, rowPts d g.1.1 f)
    else if g.2 = .dma (recvSem d) then rowPts g.1.1 d (gl m ρ)
    else if g.2 = .dma (sendSem (slot g.1.1 d)) then srcPts g.1.1 (tok d) (sb m ρ g.1.1)
    else iprop(emp))
  (repeat' split) <;> infer_instance

section Sched
variable (c : Dev nD)

/-- No DMA semaphore is the barrier semaphore. -/
theorem dma_ne_bar (q : DmaSem sig) : (SemLoc.dma q : SemLoc sig) ≠ .reg barS := fun h => by cases h
/-- No send semaphore is a receive semaphore, as places of a thread. -/
theorem send_ne_recv' (a b : Fin 8) : (SemLoc.dma (sendSem a) : SemLoc sig) ≠ .dma (recvSem b) :=
  fun h => send_ne_recv a b (SemLoc.dma.inj h)

/-- The devices after `c`, whose signals its barrier collects. -/
def after (c : Dev nD) : Finset (Dev nD) := Finset.univ.filter fun d => c.val < d.val

/-- There are `7 - c` devices after `c`. -/
theorem card_after (c : Dev nD) : (after c).card = 7 - c.val := by revert c; decide

/-- The barrier cell of `c` has one duty for each device after `c`. -/
theorem duties_bar : (Rd (F := F) m ρ).duties (barCell c) 0 = after c := by
  dsimp only [Rd]; rw [if_pos ⟨rfl, rfl⟩]; unfold after
  refine Finset.filter_congr fun d _ => ?_
  unfold Pays
  constructor
  · rintro (h | h | h)
    · exact h.2
    · exact absurd h.1 (dma_ne_bar _).symm
    · exact absurd h.1 (dma_ne_bar _).symm
  · exact fun h => .inl ⟨rfl, h⟩

/-- A receive cell's only payer is its sender, if the sender comes before the receiver. -/
theorem pays_recv (j d : Dev nD) : Pays (recvCell c j) d ↔ d = j ∧ j.val < c.val := by
  unfold Pays
  constructor
  · rintro (h | h | h)
    · exact absurd h.1 (dma_ne_bar _)
    · obtain rfl := recvSem_inj.mp (SemLoc.dma.inj h.1); exact ⟨rfl, h.2⟩
    · exact absurd h.1.symm (send_ne_recv' _ _)
  · rintro ⟨rfl, h⟩; exact .inr (.inl ⟨rfl, h⟩)

/-- A send cell's only payer is named by its destination, if the destination comes after the sender. -/
theorem pays_send (j d : Dev nD) : Pays (sendCell c j) d ↔ d = j ∧ c.val < j.val := by
  unfold Pays
  constructor
  · rintro (h | h | h)
    · exact absurd h.1 (dma_ne_bar _)
    · exact absurd h.1 (send_ne_recv' _ _)
    · obtain rfl := slot_inj.mp (sendSem_inj.mp (SemLoc.dma.inj h.1)); exact ⟨rfl, h.2⟩
  · rintro ⟨rfl, h⟩; exact .inr (.inr ⟨rfl, h⟩)

/-- The receive cell for an earlier device has one duty. -/
theorem duties_recv (j : Dev nD) (h : j.val < c.val) : (Rd (F := F) m ρ).duties (recvCell c j) 0 = {j} := by
  dsimp only [Rd]; rw [if_pos ⟨rfl, rfl⟩]
  ext d; rw [Finset.mem_filter, pays_recv, Finset.mem_singleton]
  exact ⟨fun h' => h'.2.1, fun h' => ⟨Finset.mem_univ _, h', h⟩⟩
/-- The send cell for a later device has one duty. -/
theorem duties_send (d : Dev nD) (h : c.val < d.val) : (Rd (F := F) m ρ).duties (sendCell c d) 0 = {d} := by
  dsimp only [Rd]; rw [if_pos ⟨rfl, rfl⟩]
  ext d'; rw [Finset.mem_filter, pays_send, Finset.mem_singleton]
  exact ⟨fun h' => h'.2.1, fun h' => ⟨Finset.mem_univ _, h', h⟩⟩
/-- No cell has a duty after its first round. -/
theorem duties_later (g : GSem nD τ sig) : ∀ r, 1 ≤ r → (Rd (F := F) m ρ).duties g r = ∅ :=
  fun r hr => by dsimp only [Rd]; exact if_neg fun h => by omega
/-- The receive cell for a device that is not earlier has no duty. -/
theorem duties_recv_none (j : Dev nD) (h : ¬ j.val < c.val) : ∀ r, 0 ≤ r → (Rd (F := F) m ρ).duties (recvCell c j) r = ∅ := by
  intro r _; dsimp only [Rd]; split
  · exact Finset.filter_eq_empty_iff.mpr fun d _ hd => h ((pays_recv c j d).mp hd).2
  · rfl
/-- The send cell for a device that is not later has no duty. -/
theorem duties_send_none (d : Dev nD) (h : ¬ c.val < d.val) : ∀ r, 0 ≤ r → (Rd (F := F) m ρ).duties (sendCell c d) r = ∅ := by
  intro r _; dsimp only [Rd]; split
  · exact Finset.filter_eq_empty_iff.mpr fun d' _ hd => h ((pays_send c d d').mp hd).2
  · rfl

/-- A duty of a barrier cell is one unit. -/
theorem amount_bar (r : ℕ) (d : Dev nD) : (Rd (F := F) m ρ).amount (barCell c) r d = 1 := by dsimp only [Rd]; exact if_pos rfl
/-- A duty of a DMA cell is the credit of one row. -/
theorem amount_dma (q : DmaSem sig) (r : ℕ) (d : Dev nD) : (Rd (F := F) m ρ).amount ((c : Thread nD τ), .dma q) r d = N := by
  dsimp only [Rd]; exact if_neg (dma_ne_bar q)

/-- The barrier cell of `c` expects one unit from each device after `c`. -/
theorem expect_bar : (Rd (F := F) m ρ).expect (barCell c) 0 = 7 - c.val := by
  unfold Schedule.expect Schedule.amountOf
  rw [duties_bar, Finset.sum_congr rfl fun d _ => amount_bar m ρ c 0 d, Finset.sum_const, card_after, smul_eq_mul, mul_one]
/-- The receive cell for an earlier device expects the credit of one row. -/
theorem expect_recv (j : Dev nD) (h : j.val < c.val) : (Rd (F := F) m ρ).expect (recvCell c j) 0 = N := by
  unfold Schedule.expect Schedule.amountOf; rw [duties_recv m ρ c j h, Finset.sum_singleton, amount_dma]
/-- The send cell for a later device expects the credit of one row. -/
theorem expect_send (d : Dev nD) (h : c.val < d.val) : (Rd (F := F) m ρ).expect (sendCell c d) 0 = N := by
  unfold Schedule.expect Schedule.amountOf; rw [duties_send m ρ c d h, Finset.sum_singleton, amount_dma]

/-- A barrier signal from `d` hands over row `c` of `d`'s gather buffer. -/
theorem payload_bar (d : Dev nD) : (Rd (F := F) m ρ).payload (barCell c) 0 d = iprop(∃ f, rowPts d c f) := by
  dsimp only [Rd]; rw [if_pos rfl]
/-- A landing from `j` hands over row `j` of the gather buffer with `j`'s sums. -/
theorem payload_recv (j : Dev nD) : (Rd (F := F) m ρ).payload (recvCell c j) 0 j = rowPts c j (gl m ρ) := by
  dsimp only [Rd]; rw [if_neg (dma_ne_bar _), if_pos rfl]
/-- A finished copy to `d` hands back the share of the sent row that it was reading. -/
theorem payload_send (d : Dev nD) : (Rd (F := F) m ρ).payload (sendCell c d) 0 d = srcPts c (tok d) (sb m ρ c) := by
  dsimp only [Rd]; rw [if_neg (dma_ne_bar _), if_neg (send_ne_recv' _ _), if_pos rfl]

/-- A receive wait obtains the row that landed. -/
theorem rest_recv (j : Dev nD) (h : j.val < c.val) :
    bigSep ((Rd (F := F) m ρ).duties (recvCell c j) 0 \ ∅) (fun d => (Rd (F := F) m ρ).payload (recvCell c j) 0 d) = rowPts c j (gl m ρ) := by
  rw [Finset.sdiff_empty, duties_recv m ρ c j h, bigSep_singleton, payload_recv]
/-- A send wait obtains the share of the sent row. -/
theorem rest_send (d : Dev nD) (h : c.val < d.val) :
    bigSep ((Rd (F := F) m ρ).duties (sendCell c d) 0 \ ∅) (fun j => (Rd (F := F) m ρ).payload (sendCell c d) 0 j) = srcPts c (tok d) (sb m ρ c) := by
  rw [Finset.sdiff_empty, duties_send m ρ c d h, bigSep_singleton, payload_send]

end Sched

/-! ## What each device owes at launch; the levels -/

/-- Of the devices before `c`, those not yet signalled after `k` signals: `k ≤ j < c`. -/
def sigLeft (c : Dev nD) (k : ℕ) : Finset (Dev nD) := Finset.univ.filter fun j => k ≤ j.val ∧ j.val < c.val
/-- Of the devices after `c`, those not yet sent to after `k` sends: `c + k < d`. -/
def sendLeft (c : Dev nD) (k : ℕ) : Finset (Dev nD) := Finset.univ.filter fun d => c.val + k < d.val

/-- Which signals are left after `k` steps. -/
theorem mem_sigLeft {c : Dev nD} {k : ℕ} {j : Dev nD} : j ∈ sigLeft c k ↔ k ≤ j.val ∧ j.val < c.val := by
  unfold sigLeft; rw [Finset.mem_filter]; exact ⟨fun h => h.2, fun h => ⟨Finset.mem_univ _, h⟩⟩
/-- Which copies are left after `k` steps. -/
theorem mem_sendLeft {c : Dev nD} {k : ℕ} {d : Dev nD} : d ∈ sendLeft c k ↔ c.val + k < d.val := by
  unfold sendLeft; rw [Finset.mem_filter]; exact ⟨fun h => h.2, fun h => ⟨Finset.mem_univ _, h⟩⟩

/-- A step that signals takes one device off the list. -/
theorem sigLeft_step {c j : Dev nD} {k : ℕ} (hj : j.val = k) (h : k < c.val) :
    sigLeft c k = insert j (sigLeft c (k + 1)) ∧ j ∉ sigLeft c (k + 1) := by
  refine ⟨?_, fun hm => by have := (mem_sigLeft.mp hm).1; omega⟩
  ext i; rw [Finset.mem_insert, mem_sigLeft, mem_sigLeft, Fin.ext_iff]; omega
/-- A step that does not signal changes nothing. -/
theorem sigLeft_skip {c : Dev nD} {k : ℕ} (h : ¬ k < c.val) : sigLeft c k = sigLeft c (k + 1) := by
  ext i; rw [mem_sigLeft, mem_sigLeft]; omega
/-- After seven steps no signal is left. -/
theorem sigLeft_end (c : Dev nD) : sigLeft c 7 = ∅ := by revert c; decide
/-- A step that sends takes one device off the list. -/
theorem sendLeft_step {c d : Dev nD} {k : ℕ} (hd : d.val = c.val + k + 1) :
    sendLeft c k = insert d (sendLeft c (k + 1)) ∧ d ∉ sendLeft c (k + 1) := by
  refine ⟨?_, fun hm => by have := mem_sendLeft.mp hm; omega⟩
  ext i; rw [Finset.mem_insert, mem_sendLeft, mem_sendLeft, Fin.ext_iff]; omega
/-- A step that does not send changes nothing. -/
theorem sendLeft_skip {c : Dev nD} {k : ℕ} (h : ¬ c.val + k + 1 < 8) : sendLeft c k = sendLeft c (k + 1) := by
  ext i; have : i.val < 8 := i.isLt; rw [mem_sendLeft, mem_sendLeft]; omega
/-- After seven steps no copy is left. -/
theorem sendLeft_end (c : Dev nD) : sendLeft c 7 = ∅ := by revert c; decide
/-- At the start a copy is left for each device after `c`. -/
theorem sendLeft_zero (c : Dev nD) : sendLeft c 0 = after c := by unfold sendLeft after; rfl

/-- The signals still owed after `k`; the row credits still owed after `k` sends. -/
def oweSig (c : Dev nD) (k : ℕ) : CellTallies nD τ sig Unit := ∑ j ∈ sigLeft c k, tallyAt (barCell j) () 1
/-- What `c` still owes to receive cells after `k` steps of its copies. -/
def oweSend (c : Dev nD) (k : ℕ) : CellTallies nD τ sig Unit := ∑ d ∈ sendLeft c k, tallyAt (recvCell d c) () N
/-- What `c` owes at launch: all of its copies and all of its signals. -/
def O₀ (c : Dev nD) : CellTallies nD τ sig Unit := oweSend c 0 + oweSig c 0

/-- A signal pays one unit of what is owed. -/
theorem oweSig_step {c j : Dev nD} {k : ℕ} (hj : j.val = k) (h : k < c.val) : oweSig c k = oweSig c (k + 1) + tallyAt (barCell j) () 1 := by
  unfold oweSig; rw [(sigLeft_step hj h).1, Finset.sum_insert (sigLeft_step hj h).2, add_comm]
/-- A copy pays one row of what is owed. -/
theorem oweSend_step {c d : Dev nD} {k : ℕ} (hd : d.val = c.val + k + 1) : oweSend c k = oweSend c (k + 1) + tallyAt (recvCell d c) () N := by
  unfold oweSend; rw [(sendLeft_step hd).1, Finset.sum_insert (sendLeft_step hd).2, add_comm]
/-- After seven steps no signal is owed. -/
theorem oweSig_end (c : Dev nD) : oweSig c 7 = 0 := by unfold oweSig; rw [sigLeft_end]; rfl
/-- After seven steps no copy is owed. -/
theorem oweSend_end (c : Dev nD) : oweSend c 7 = 0 := by unfold oweSend; rw [sendLeft_end]; rfl

/-- The semaphore is a receive semaphore. -/
def IsRecv (s : SemLoc sig) : Prop := ∃ k, s = .dma (recvSem k)
instance : DecidablePred IsRecv := fun s => by unfold IsRecv; infer_instance
/-- Receive semaphores are receive semaphores, whatever their number. -/
theorem isRecv_recv (k : Fin 8) : IsRecv (.dma (recvSem k)) := ⟨k, rfl⟩

/-- Each cell of a TensorCore has one level; the others have none. -/
def L (g : GSem nD τ sig) : Finset Unit := if g.1.2 = .tc then {()} else ∅
/-- Barrier cells sit at level 1, receive cells at 2, everything else (staging, sends) at 0. -/
def lv (g : GSem nD τ sig) (_ : Unit) : ℕ := if g.2 = .reg barS then 1 else if IsRecv g.2 then 2 else 0

/-- A cell off the TensorCore has no level. -/
theorem L_of_ne (g : GSem nD τ sig) (h : g.1.2 ≠ .tc) : L g = ∅ := if_neg h
/-- A cell of the TensorCore has one level. -/
theorem L_tc (c : Dev nD) (sm : SemLoc sig) : L ((c : Thread nD τ), sm) = {()} := if_pos rfl
/-- Barrier cells are at level 1. -/
theorem lv_bar (c : Dev nD) (u : Unit) : lv (barCell c) u = 1 := if_pos rfl
/-- Receive cells are at level 2. -/
theorem lv_recv (c j : Dev nD) (u : Unit) : lv (recvCell c j) u = 2 := by
  unfold lv; rw [if_neg (dma_ne_bar _), if_pos (isRecv_recv j)]

/-- A cell at which a sum of debts is positive is the cell of one of them. -/
theorem sum_pos {S : Finset (Dev nD)} {f : Dev nD → GSem nD τ sig} {n : ℕ} {g : GSem nD τ sig} {u : Unit}
    (h : 0 < (∑ d ∈ S, tallyAt (f d) () n : CellTallies nD τ sig Unit) g u) : ∃ d ∈ S, g = f d := by
  rw [Finset.sum_apply, Finsupp.finsetSum_apply] at h
  obtain ⟨d, hd, hne⟩ := Finset.exists_ne_zero_of_sum_ne_zero (Nat.pos_iff_ne_zero.mp h)
  refine ⟨d, hd, ?_⟩
  rw [tallyAt_apply] at hne
  by_contra hc
  exact hne (if_neg fun h' => hc h'.1)

/-- What the copies owe is owed to receive cells. -/
theorem oweSend_pos {c : Dev nD} {k : ℕ} {g : GSem nD τ sig} {u : Unit} (h : 0 < oweSend c k g u) : ∃ d, g = recvCell d c := by
  obtain ⟨d, -, rfl⟩ := sum_pos h; exact ⟨d, rfl⟩
/-- What is owed at launch is owed to receive cells or barrier cells. -/
theorem O₀_pos {c : Dev nD} {g : GSem nD τ sig} {u : Unit} (h : 0 < O₀ c g u) : (∃ d, g = recvCell d c) ∨ ∃ j, g = barCell j := by
  unfold O₀ at h
  rw [Pi.add_apply, Finsupp.add_apply] at h
  rcases Nat.eq_zero_or_pos (oweSend c 0 g u) with h0 | h0
  · rw [h0, zero_add] at h; obtain ⟨j, -, rfl⟩ := sum_pos h; exact .inr ⟨j, rfl⟩
  · exact .inl (oweSend_pos h0)

omit [FloatOps F] in
/-- A staging semaphore may be waited on whatever of its launch debt a device still owes. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; unfold lv; rw [if_neg (dma_ne_bar _), if_neg hq])
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier waits a device owes row credits only, above its barrier cell. -/
theorem mayWait_bar (c : Dev nD) (k : ℕ) :
    (levAts L lv : sProp 𝕄) ⊢ MayWait (c : Thread nD τ) (.reg barS) () (oweSend c k) :=
  MayOwe.of_cut (L := L) (lev := lv) 1 (fun p hp => by rw [Finset.mem_singleton.mp hp, L_tc]; exact Finset.mem_singleton_self _)
    (fun g u hg => by obtain ⟨d, rfl⟩ := oweSend_pos hg; exact Finset.mem_singleton_self _)
    (fun p hp => by rw [Finset.mem_singleton.mp hp]; exact (lv_bar c _).le)
    (fun g u hg => by obtain ⟨d, rfl⟩ := oweSend_pos hg; rw [lv_recv]; decide)

end Cert.PrefixSum

end
-- ==== Proof.Steps.lean ====
/-
# `Steps`: one conditional operation of the kernel at a time, for any device and any step number

The kernel writes each of its five loops out: seven conditional signals, seven conditional barrier waits, seven
conditional transfers, seven conditional receive waits, seven conditional send waits. For each loop this module states
what holds after `k` steps and proves once, for every device `c` and every `k`, that a step takes that to `k + 1`.
-/
module

public import proofs.«01_k».proof.Proof.Protocol

@[expose] public section

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a measure. -/
abbrev 𝒱₀ : Variants := Variants.none

section Split
omit [FloatOps F]
/-- A member taken out of a separating conjunction. -/
theorem take_one {S : Finset (Dev nD)} {a : Dev nD} (ha : a ∉ S) (Φ : Dev nD → sProp 𝕄) :
    bigSep (insert a S) Φ = iprop(Φ a ∗ bigSep S Φ) := bigSep_insert ha
/-- A subset taken out of a separating conjunction. -/
theorem take_part {S T : Finset (Dev nD)} (h : T ⊆ S) (Φ : Dev nD → sProp 𝕄) :
    bigSep S Φ = iprop(bigSep T Φ ∗ bigSep (S \ T) Φ) := bigSep_sdiff_split h
end Split

/-! ## The cells' records, known to every device -/

/-- A device's cells: its barrier, its send semaphores, its receive semaphores. -/
abbrev CellIx : Type := Unit ⊕ (Fin 8 ⊕ Fin 8)
/-- The semaphore of a cell. -/
abbrev csem : CellIx → SemLoc sig
  | .inl _ => .reg barS
  | .inr (.inl k) => .dma (sendSem k)
  | .inr (.inr k) => .dma (recvSem k)
/-- The semaphore of the mesh that a device's cell is. -/
abbrev kcell (i : Dev nD × CellIx) : GSem nD τ sig := ((i.1 : Thread nD τ), csem i.2)

variable (K : Dev nD × CellIx → ℕ)

/-- Every cell's invariant, and that every cell is at round 0. -/
def records : sProp 𝕄 :=
  iprop((bigSep Finset.univ fun i => cellInv ER (Rd m ρ) (K i) (kcell i)) ∗ bigSep Finset.univ fun i => reached ER (kcell i) 0)

/-- The records can be used any number of times. -/
instance records_persistent : BI.Persistent (records m ρ K) := by unfold records; infer_instance

/-- The records of one cell. -/
theorem records_at (i : Dev nD × CellIx) :
    records m ρ K ⊢ iprop(cellInv ER (Rd m ρ) (K i) (kcell i) ∗ reached ER (kcell i) 0) := by
  unfold records
  iintro ⟨#HI, #HR⟩
  isplitr
  · iapply (show (bigSep Finset.univ fun i => (cellInv ER (Rd m ρ) (K i) (kcell i) : sProp 𝕄)) ⊢ cellInv ER (Rd m ρ) (K i) (kcell i)
      from bigSep_elim (Finset.mem_univ i)); iexact HI
  · iapply (show (bigSep Finset.univ fun i => (reached ER (kcell i) 0 : sProp 𝕄)) ⊢ reached ER (kcell i) 0
      from bigSep_elim (Finset.mem_univ i)); iexact HR

/-- The records of a barrier cell. -/
theorem records_bar (c : Dev nD) :
    records m ρ K ⊢ iprop(cellInv ER (Rd m ρ) (K (c, .inl ())) (barCell c) ∗ reached ER (barCell c) 0) := records_at m ρ K (c, .inl ())
/-- The records of a send cell. -/
theorem records_send (c d : Dev nD) :
    records m ρ K ⊢ iprop(cellInv ER (Rd m ρ) (K (c, .inr (.inl (slot c d)))) (sendCell c d) ∗ reached ER (sendCell c d) 0) :=
  records_at m ρ K (c, .inr (.inl (slot c d)))
/-- The records of a receive cell. -/
theorem records_recv (c j : Dev nD) :
    records m ρ K ⊢ iprop(cellInv ER (Rd m ρ) (K (c, .inr (.inr j))) (recvCell c j) ∗ reached ER (recvCell c j) 0) :=
  records_at m ρ K (c, .inr (.inr j))

variable (c : Dev nD)

/-! ## The signals -/

/-- After `k` signals: what is owed, and for each device not yet signalled the right to signal it and the row it gets. -/
def sigInv (k : ℕ) : sProp 𝕄 :=
  iprop((∃ W, owes (c : Thread nD τ) (oweSend c 0 + oweSig c k) W)
    ∗ bigSep (sigLeft c k) fun j => iprop(dutyTok ER (barCell j) 0 c ∗ ∃ f, rowPts (F := F) c j f))

/-- One conditional signal. -/
theorem sig_step (k : ℕ) (p : Prop) [Decidable p] (hp : p ↔ k < c.val) (dv : p → Dev nD) (hdv : ∀ h, (dv h).val = k)
    {α : Type} {Q : α → sProp 𝕄} (R : Prog (TpuEff nD τ sig (Elt F) Λ₀ .tc) α) :
    iprop(records m ρ K ∗ sigInv c k)
      ⊢ iprop((sigInv c (k + 1) -∗ wp frame (wpE (defs₀ (F := F)) 𝒱₀ (c : Thread nD τ) none) Set.univ R Q)
          -∗ wp frame (wpE (defs₀ (F := F)) 𝒱₀ (c : Thread nD τ) none) Set.univ
              (if h : p then (semSignalWord (dv h) barS 1#32 >>= fun _ => R) else R) Q) := by
  by_cases h : p
  · rw [dif_pos h]
    have hk := hp.mp h
    generalize hd : dv h = j
    have hj : j.val = k := by rw [← hd]; exact hdv h
    simp only [semSignalWord, Prog.bind_op, Prog.bind_ret]
    unfold sigInv
    rw [(sigLeft_step hj hk).1, take_one (sigLeft_step hj hk).2]
    iintro ⟨#HR, ⟨%W, HO⟩, ⟨Ht, Hrow⟩, Hrest⟩ Hk
    ihave #Hj := (records_bar m ρ K j) $$ HR
    icases Hj with ⟨#HI, #Hr⟩
    iapply (Rounds.wp_signal 𝒱₀ ER (Rd m ρ) (c : Thread nD τ) none (dst := (j : Thread nD τ)) (κ := K (j, .inl ())) (r := 0)
        (d := c) (by rw [duties_bar]; unfold after; rw [Finset.mem_filter]; exact ⟨Finset.mem_univ _, by omega⟩)
        ((amount_bar m ρ j 0 c).trans (by decide)) () (O₀ := oweSend c 0 + oweSig c k) (oweSend c 0 + oweSig c (k + 1))
        (by rw [oweSig_step hj hk, add_assoc]; rfl)) $$ [HO Ht Hrow]
    · isplitr; · iexact HI
      isplitl [HO]; · iexact HO
      isplitl [Ht]; · iexact Ht
      isplitl [Hrow]; · rw [payload_bar]; iexact Hrow
      iexact Hr
    iintro HO
    iapply Hk
    isplitl [HO]
    · iexists W; iexact HO
    iexact Hrest
  · rw [dif_neg h]
    have hk : ¬ k < c.val := fun h' => h (hp.mpr h')
    unfold sigInv oweSig
    rw [sigLeft_skip hk]
    iintro ⟨-, H⟩ Hk
    iapply Hk
    iexact H

/-! ## The barrier waits -/

/-- After `k` barrier waits: some `S` of the signals have come, at least as many as were waited for. -/
def barInv (k : ℕ) : sProp 𝕄 :=
  iprop((∃ W, owes (c : Thread nD τ) (oweSend c 0) W) ∗ levAts L lv ∗ cred (tallyAt (barCell c) () (7 - c.val - min k (7 - c.val)))
    ∗ ∃ S, ⌜S ⊆ after c ∧ min k (7 - c.val) + (after c \ S).card ≤ 7 - c.val⌝
        ∗ atPos ER (barCell c) 0 S (min k (7 - c.val)) ∗ bigSep S fun d => iprop(∃ f, rowPts (F := F) d c f))

/-- One conditional wait on the barrier. -/
theorem bar_step (k : ℕ) (p : Prop) [Decidable p] (hp : p ↔ c.val + k + 1 < 8)
    {α : Type} {Q : α → sProp 𝕄} (R : Prog (TpuEff nD τ sig (Elt F) Λ₀ .tc) α) :
    iprop(records m ρ K ∗ barInv c k)
      ⊢ iprop((barInv c (k + 1) -∗ wp frame (wpE (defs₀ (F := F)) 𝒱₀ (c : Thread nD τ) none) Set.univ R Q)
          -∗ wp frame (wpE (defs₀ (F := F)) 𝒱₀ (c : Thread nD τ) none) Set.univ
              (if h : p then (semWaitWord barS 1#32 >>= fun _ => R) else R) Q) := by
  by_cases h : p
  · rw [dif_pos h]
    have hk := hp.mp h
    simp only [semWaitWord, Prog.bind_op, Prog.bind_ret]
    unfold barInv
    rw [show min k (7 - c.val) = k by omega, show min (k + 1) (7 - c.val) = k + 1 by omega,
      show 7 - c.val - k = (7 - c.val - (k + 1)) + 1 by omega, ← tallyAt_add]
    iintro ⟨#HR, ⟨%W, HO⟩, #Hlev, Hcr, %S, %hS, Hat, Hrows⟩ Hk
    ihave #Hj := (records_bar m ρ K c) $$ HR
    icases Hj with ⟨#HI, -⟩
    ihave Hcr := (cred_add _ _).1 $$ Hcr
    icases Hcr with ⟨Hcr', Hc1⟩
    iapply (Rounds.wp_wait 𝒱₀ ER (Rd m ρ) (c : Thread nD τ) none (κ := K (c, .inl ()))
      (wpE_semWait_eq 𝒱₀ (c : Thread nD τ) none Set.univ) (Set.mem_univ _) (cr := Finsupp.single () 1) (O := oweSend c 0) (W := W)
      {(SemLoc.reg barS, ())} (R := 0) (m := k) (T := S) (by rw [Idealize.SL.Util.total_single]; decide) (image_single_subset _ () 1)) $$ [HO Hc1 Hat]
    · isplitr; · iexact HI
      isplitl [Hc1]; · iexact Hc1
      isplitl [HO]; · iexact HO
      isplitr; · iapply (mayWait_bar c 0); iexact Hlev
      iexact Hat
    iintro %S' ⟨%hS', HO, Hat, Hnew⟩
    rw [duties_bar, expect_bar] at hS'
    iapply Hk
    isplitl [HO]; · iexists _; iexact HO
    isplitr; · iexact Hlev
    isplitl [Hcr']; · iexact Hcr'
    iexists S'
    isplitr; · ipureintro; exact ⟨hS'.2.1, hS'.2.2⟩
    isplitl [Hat]; · iexact Hat
    rw [take_part hS'.1]
    isplitl [Hrows]; · iexact Hrows
    iapply (Entails.of_eq (bigSep_congr fun d _ => payload_bar m ρ c d)); iexact Hnew
  · rw [dif_neg h]
    have hk : ¬ c.val + k + 1 < 8 := fun h' => h (hp.mpr h')
    unfold barInv
    rw [show min (k + 1) (7 - c.val) = min k (7 - c.val) by omega]
    iintro ⟨-, H⟩ Hk
    iapply Hk
    iexact H

/-- After all the barrier waits every device after `c` has signalled: their rows `c` are `c`'s to write, and the barrier
    cell is closed with its counter at zero. -/
theorem bar_end :
    iprop(records m ρ K ∗ barInv c 7)
      ⊢ (|={Set.univ}=> iprop((∃ W, owes (c : Thread nD τ) (oweSend c 0) W) ∗ semVal (barCell c) 0
          ∗ bigSep (sendLeft c 0) fun d => iprop(∃ f, rowPts (F := F) d c f)) : sProp 𝕄) := by
  unfold barInv
  have h7 : min 7 (7 - c.val) = 7 - c.val := by omega
  rw [h7]
  iintro ⟨#HR, HO, -, -, %S, %hS, Hat, Hrows⟩
  have hc : (after c \ S).card = 0 := by omega
  have hSe : S = after c := Finset.Subset.antisymm hS.1 (Finset.sdiff_eq_empty_iff_subset.mp (Finset.card_eq_zero.mp hc))
  subst hSe
  ihave #Hj := (records_bar m ρ K c) $$ HR
  icases Hj with ⟨#HI, -⟩
  imod (Rounds.fupd_skip ER (Rd m ρ) (κ := K (c, .inl ())) (g := barCell c) (R := 0) (m := 7 - c.val) (T := after c)
      (by rw [duties_bar]) (by rw [expect_bar]) (Set.mem_univ _)) $$ [Hat] with ⟨Hat, -⟩
  · isplitr; · iexact HI
    iexact Hat
  imod (Rounds.cell_close ER (Rd m ρ) (Set.mem_univ (K (c, .inl ()))) (fun h => h) (R := 0 + 1) (duties_later m ρ (barCell c))) $$ [Hat] with Hz
  · isplitr; · iexact HI
    iexact Hat
  imodintro
  isplitl [HO]; · iexact HO
  isplitl [Hz]; · iexact Hz
  rw [sendLeft_zero]; iexact Hrows

/-! ## The sends -/

/-- Of the devices after `c`, those sent to by the first `k` sends: `c < d ≤ c + k`. -/
def sent (k : ℕ) : Finset (Dev nD) := Finset.univ.filter fun d => c.val < d.val ∧ d.val ≤ c.val + k

/-- Which copies have been started after `k` steps. -/
theorem mem_sent {c : Dev nD} {k : ℕ} {d : Dev nD} : d ∈ sent c k ↔ c.val < d.val ∧ d.val ≤ c.val + k := by
  unfold sent; rw [Finset.mem_filter]; exact ⟨fun h => h.2, fun h => ⟨Finset.mem_univ _, h⟩⟩
/-- A step that sends adds its destination. -/
theorem sent_step {c d : Dev nD} {k : ℕ} (hd : d.val = c.val + k + 1) :
    sent c (k + 1) = insert d (sent c k) ∧ d ∉ sent c k := by
  refine ⟨?_, fun hm => by have := (mem_sent.mp hm).2; omega⟩
  ext i; rw [Finset.mem_insert, mem_sent, mem_sent, Fin.ext_iff]; omega
/-- A step that does not send adds none. -/
theorem sent_skip {c : Dev nD} {k : ℕ} (h : ¬ c.val + k + 1 < 8) : sent c (k + 1) = sent c k := by
  ext i; have : i.val < 8 := i.isLt; rw [mem_sent, mem_sent]; omega
/-- At the start no copy has been started. -/
theorem sent_zero (c : Dev nD) : sent c 0 = ∅ := by revert c; decide
/-- After seven steps a copy has been started to each device after `c`. -/
theorem sent_end (c : Dev nD) : sent c 7 = sendLeft c 0 := by revert c; decide

/-- After `k` sends: the row credits still owed; for each device not yet sent to, its row to write, the share of the sent
    row to read and the two duties to pay; for each device sent to, the credit to wait for the send with. -/
def sendInv (k : ℕ) : sProp 𝕄 :=
  iprop((∃ W, owes (c : Thread nD τ) (oweSend c k) W)
    ∗ (bigSep (sendLeft c k) fun d => iprop((dutyTok ER (recvCell d c) 0 c ∗ dutyTok ER (sendCell c d) 0 d)
          ∗ srcPts c (tok d) (sb m ρ c) ∗ ∃ f, rowPts (F := F) d c f))
    ∗ bigSep (sent c k) fun d => cred (tallyAt (sendCell c d) () N))

set_option maxHeartbeats 1000000 in
/-- One transfer, its operands as the kernel's expressions give them, equal to the row and the semaphores meant. -/
theorem send_op (k : ℕ) (d n : Dev nD) (hd : d.val = c.val + k + 1) (hn : n = d)
    (dM : Memref sig .tc .vmem S1x512 .f32) (hM : dM = rowM c)
    (ss rs : DmaSem sig) (hs : ss = sendSem (slot c d)) (hr : rs = recvSem c)
    {hsc : (dM : Memref sig (Dev.tc n : Thread nD τ).2.kind .vmem S1x512 .f32).view.ref.isScScratch = false}
    {hsrc : srcM.view.WordExact} {hdst : dM.view.WordExact}
    {hsem : DmaTarget.Typed .vmem (.dma rs) (.remote (Dev.tc n : Thread nD τ) dM (.dma ss) hsc)}
    {α : Type} {Q : α → sProp 𝕄} (R : Prog (TpuEff nD τ sig (Elt F) Λ₀ .tc) α) :
    iprop(records m ρ K ∗ sendInv m ρ c k)
      ⊢ iprop((sendInv m ρ c (k + 1) -∗ wp frame (wpE (defs₀ (F := F)) 𝒱₀ (c : Thread nD τ) none) Set.univ R Q)
          -∗ wp frame (wpE (defs₀ (F := F)) 𝒱₀ (c : Thread nD τ) none) Set.univ
              (.op (.enqueueDma srcM (.remote (Dev.tc n : Thread nD τ) dM (.dma ss) hsc) (.dma rs) hsrc hdst hsem) fun _ => R) Q) := by
  subst hn hM hs hr
  have hlt : c.val < n.val := by omega
  unfold sendInv
  rw [(sendLeft_step hd).1, take_one (sendLeft_step hd).2, (sent_step hd).1, take_one (sent_step hd).2]
  iintro ⟨#HR, ⟨%W, HO⟩, ⟨⟨⟨Htr, Hts⟩, Hsrc, %f, Hrow⟩, Hrest⟩, Hdone⟩ Hk
  ihave #Hs := (records_send m ρ K c n) $$ HR
  icases Hs with ⟨#HIs, #Hrs⟩
  ihave #Hv := (records_recv m ρ K n c) $$ HR
  icases Hv with ⟨#HIv, #Hrv⟩
  unfold rowPts srcPts
  iapply (Rounds.wp_send_pointsTo 𝒱₀ ER (Rd m ρ) (c : Thread nD τ) none (κ₁ := K (c, .inr (.inl (slot c n)))) (κ₂ := K (n, .inr (.inr c)))
    (c' := (n : Thread nD τ)) (src := srcM) (dst := rowM c) (sS := .dma (sendSem (slot c n))) (sem := .dma (recvSem c))
    (r₁ := 0) (r₂ := 0) (d₁ := n) (d₂ := c) (q := tok n) (fs := sb m ρ c) (fd := f)
    (by rw [duties_send m ρ c n hlt]; exact Finset.mem_singleton_self _)
    (by rw [duties_recv m ρ n c hlt]; exact Finset.mem_singleton_self _)
    () () N rfl (amount_dma m ρ c _ 0 n) (amount_dma m ρ n _ 0 c) (O₀ := oweSend c k) (oweSend c (k + 1)) (oweSend_step hd) (W := W)
    (by rw [payload_send]; exact BI.Entails.refl _)
    (by rw [payload_recv]; exact Entails.of_eq (landed_eq m ρ c n f))) $$ [HO Htr Hts Hsrc Hrow]
  · isplitr; · iexact HIs
    isplitr; · iexact HIv
    isplitl [Hsrc]; · iexact Hsrc
    isplitl [Hrow]; · iexact Hrow
    isplitl [HO]; · iexact HO
    isplitl [Hts]; · iexact Hts
    isplitr; · iexact Hrs
    isplitl [Htr]; · iexact Htr
    iexact Hrv
  iintro ⟨Hc, HO⟩
  iapply Hk
  isplitl [HO]; · iexists W; iexact HO
  isplitl [Hrest]; · iexact Hrest
  isplitl [Hc]; · iexact Hc
  iexact Hdone

/-- One conditional copy to a later device. -/
theorem send_step (k : ℕ) (p : Prop) [Decidable p] (hp : p ↔ c.val + k + 1 < 8) (dv : p → Dev nD) (hdv : ∀ h, (dv h).val = c.val + k + 1)
    (dM : p → Memref sig .tc .vmem S1x512 .f32) (hM : ∀ h, dM h = rowM c)
    (ss rs : p → DmaSem sig) (hs : ∀ h, ss h = sendSem ⟨k % 8, Nat.mod_lt _ (by decide)⟩) (hr : ∀ h, rs h = recvSem c)
    {hsc : ∀ h, (dM h : Memref sig (Dev.tc (dv h) : Thread nD τ).2.kind .vmem S1x512 .f32).view.ref.isScScratch = false}
    {hsrc : ∀ h : p, srcM.view.WordExact} {hdst : ∀ h, (dM h).view.WordExact}
    {hsem : ∀ h, DmaTarget.Typed .vmem (.dma (rs h)) (.remote (Dev.tc (dv h) : Thread nD τ) (dM h) (.dma (ss h)) (hsc h))}
    {α : Type} {Q : α → sProp 𝕄} (R : Prog (TpuEff nD τ sig (Elt F) Λ₀ .tc) α) :
    iprop(records m ρ K ∗ sendInv m ρ c k)
      ⊢ iprop((sendInv m ρ c (k + 1) -∗ wp frame (wpE (defs₀ (F := F)) 𝒱₀ (c : Thread nD τ) none) Set.univ R Q)
          -∗ wp frame (wpE (defs₀ (F := F)) 𝒱₀ (c : Thread nD τ) none) Set.univ
              (if h : p then (Prog.lift (.enqueueDma srcM (.remote (Dev.tc (dv h) : Thread nD τ) (dM h) (.dma (ss h)) (hsc h)) (.dma (rs h))
                  (hsrc h) (hdst h) (hsem h)) >>= fun _ => R) else R) Q) := by
  by_cases h : p
  · rw [dif_pos h]
    have hk := hp.mp h
    simp only [Prog.lift, Prog.bind_op, Prog.bind_ret]
    refine send_op m ρ K c k (dv h) (dv h) (hdv h) rfl (dM h) (hM h) (ss h) (rs h) ?_ (hr h) R
    rw [hs h]
    refine congrArg sendSem (Fin.ext ?_)
    have := hdv h
    show k % 8 = ((dv h).val + 7 - c.val) % 8
    omega
  · rw [dif_neg h]
    have hk : ¬ c.val + k + 1 < 8 := fun h' => h (hp.mpr h')
    unfold sendInv oweSend
    rw [sendLeft_skip hk, sent_skip hk]
    iintro ⟨-, H⟩ Hk
    iapply Hk
    iexact H

/-! ## The receive waits -/

/-- Of the devices before `c`, those whose row the first `k` receive waits cover. -/
def got (k : ℕ) : Finset (Dev nD) := Finset.univ.filter fun j => j.val < k ∧ j.val < c.val

/-- Which rows have arrived after `k` steps. -/
theorem mem_got {c : Dev nD} {k : ℕ} {j : Dev nD} : j ∈ got c k ↔ j.val < k ∧ j.val < c.val := by
  unfold got; rw [Finset.mem_filter]; exact ⟨fun h => h.2, fun h => ⟨Finset.mem_univ _, h⟩⟩
/-- A step that waits adds its sender. -/
theorem got_step {c j : Dev nD} {k : ℕ} (hj : j.val = k) (h : k < c.val) : got c (k + 1) = insert j (got c k) ∧ j ∉ got c k := by
  refine ⟨?_, fun hm => by have := (mem_got.mp hm).1; omega⟩
  ext i; rw [Finset.mem_insert, mem_got, mem_got, Fin.ext_iff]; omega
/-- A step that does not wait adds none. -/
theorem got_skip {c : Dev nD} {k : ℕ} (h : ¬ k < c.val) : got c (k + 1) = got c k := by
  ext i; rw [mem_got, mem_got]; omega
/-- At the start no row has been waited for. -/
theorem got_zero (c : Dev nD) : got c 0 = ∅ := by revert c; decide
/-- After seven steps the row of every device before `c` has arrived. -/
theorem got_end (c : Dev nD) : got c 7 = sigLeft c 0 := by revert c; decide

/-- Waiting for a whole transfer on a cell whose one duty it is: the payload, and the cell closed at zero. -/
theorem wait_close (q : DmaSem sig) (κ : ℕ) (P : sProp 𝕄) {src dst : Memref sig .tc .vmem S1x512 .f32}
    {hsrc : src.view.WordExact} {hdst : dst.view.WordExact} (hN : dst.view.dmaCredit = N)
    (hE : (Rd (F := F) m ρ).expect ((c : Thread nD τ), .dma q) 0 = N)
    (hP : bigSep ((Rd (F := F) m ρ).duties ((c : Thread nD τ), .dma q) 0 \ ∅) (fun d => (Rd (F := F) m ρ).payload ((c : Thread nD τ), .dma q) 0 d) = P)
    {α : Type} {Q : α → sProp 𝕄} (R : Prog (TpuEff nD τ sig (Elt F) Λ₀ .tc) α) :
    iprop(cellInv ER (Rd m ρ) κ ((c : Thread nD τ), .dma q) ∗ (∃ W, owes (c : Thread nD τ) 0 W)
        ∗ cred (tallyAt ((c : Thread nD τ), .dma q) () N) ∗ atPos ER ((c : Thread nD τ), .dma q) 0 ∅ 0)
      ⊢ iprop((((∃ W, owes (c : Thread nD τ) 0 W) ∗ semVal ((c : Thread nD τ), .dma q) 0 ∗ P)
            -∗ wp frame (wpE (defs₀ (F := F)) 𝒱₀ (c : Thread nD τ) none) Set.univ R Q)
          -∗ wp frame (wpE (defs₀ (F := F)) 𝒱₀ (c : Thread nD τ) none) Set.univ (.op (.waitDma2 q src dst hsrc hdst) fun _ => R) Q) := by
  iintro ⟨#HI, ⟨%W, HO⟩, Hc, Hat⟩ Hk
  rw [← hN]
  iapply (Rounds.wp_wait_rest_token 𝒱₀ ER (Rd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hE, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ κ) (fun h => h) (R := 0 + 1) (duties_later m ρ ((c : Thread nD τ), .dma q))) $$ [Hat] with Hz
  · isplitr; · iexact HI
    iexact Hat
  iapply Hk
  isplitl [HO]; · iexists _; iexact HO
  isplitl [Hz]; · iexact Hz
  iapply (Entails.of_eq hP); iexact Hpay

/-- After `k` receive waits: the cells still to wait on, and the rows that have come, their cells closed. -/
def recvInv (k : ℕ) : sProp 𝕄 :=
  iprop((∃ W, owes (c : Thread nD τ) 0 W)
    ∗ (bigSep (sigLeft c k) fun j => iprop(cred (tallyAt (recvCell c j) () N) ∗ atPos ER (recvCell c j) 0 ∅ 0))
    ∗ bigSep (got c k) fun j => iprop(semVal (recvCell c j) 0 ∗ rowPts c j (gl m ρ)))

/-- One conditional wait for an arriving row. -/
theorem recv_step (k : ℕ) (hk8 : k < 8) (p : Prop) [Decidable p] (hp : p ↔ k < c.val) (rs : DmaSem sig) (hr : rs = recvSem ⟨k, hk8⟩)
    {src dst : Memref sig .tc .vmem S1x512 .f32} {hsrc : src.view.WordExact} {hdst : dst.view.WordExact} (hN : dst.view.dmaCredit = N)
    {α : Type} {Q : α → sProp 𝕄} (R : Prog (TpuEff nD τ sig (Elt F) Λ₀ .tc) α) :
    iprop(records m ρ K ∗ recvInv m ρ c k)
      ⊢ iprop((recvInv m ρ c (k + 1) -∗ wp frame (wpE (defs₀ (F := F)) 𝒱₀ (c : Thread nD τ) none) Set.univ R Q)
          -∗ wp frame (wpE (defs₀ (F := F)) 𝒱₀ (c : Thread nD τ) none) Set.univ
              (if h : p then (Prog.lift (.waitDma2 rs src dst hsrc hdst) >>= fun _ => R) else R) Q) := by
  by_cases h : p
  · rw [dif_pos h]
    have hk := hp.mp h
    subst hr
    obtain ⟨j, hj⟩ : ∃ j : Dev nD, j = (⟨k, hk8⟩ : Fin 8) := ⟨_, rfl⟩
    have hjk : j.val = k := by rw [hj]
    rw [← hj]
    simp only [Prog.lift, Prog.bind_op, Prog.bind_ret]
    unfold recvInv
    rw [(sigLeft_step hjk hk).1, take_one (sigLeft_step hjk hk).2, (got_step hjk hk).1, take_one (got_step hjk hk).2]
    iintro ⟨#HR, HO, ⟨⟨Hc, Hat⟩, Hrest⟩, Hdone⟩ Hk
    ihave #Hv := (records_recv m ρ K c j) $$ HR
    icases Hv with ⟨#HI, -⟩
    iapply (wait_close m ρ c (recvSem j) (K (c, .inr (.inr j))) (rowPts c j (gl m ρ)) hN
      (expect_recv m ρ c j (by omega)) (rest_recv m ρ c j (by omega)) R) $$ [HO Hc Hat]
    · isplitr; · iexact HI
      isplitl [HO]; · iexact HO
      isplitl [Hc] <;> iassumption
    iintro ⟨HO, Hz, Hrow⟩
    iapply Hk
    isplitl [HO]; · iexact HO
    isplitl [Hrest]; · iexact Hrest
    isplitl [Hz Hrow]
    · isplitl [Hz] <;> iassumption
    iexact Hdone
  · rw [dif_neg h]
    have hk : ¬ k < c.val := fun h' => h (hp.mpr h')
    unfold recvInv
    rw [sigLeft_skip hk, got_skip hk]
    iintro ⟨-, H⟩ Hk
    iapply Hk
    iexact H

/-! ## The send waits -/

/-- After `k` send waits: the cells still to wait on, and the shares of the sent row that are back, their cells closed. -/
def doneInv (k : ℕ) : sProp 𝕄 :=
  iprop((∃ W, owes (c : Thread nD τ) 0 W)
    ∗ (bigSep (sendLeft c k) fun d => iprop(cred (tallyAt (sendCell c d) () N) ∗ atPos ER (sendCell c d) 0 ∅ 0))
    ∗ bigSep (sent c k) fun d => iprop(semVal (sendCell c d) 0 ∗ srcPts c (tok d) (sb m ρ c)))

/-- One conditional wait for the end of a copy. -/
theorem done_step (k : ℕ) (hk8 : k < 8) (p : Prop) [Decidable p] (hp : p ↔ c.val + k + 1 < 8) (ss : DmaSem sig) (hs : ss = sendSem ⟨k, hk8⟩)
    {src dst : Memref sig .tc .vmem S1x512 .f32} {hsrc : src.view.WordExact} {hdst : dst.view.WordExact} (hN : dst.view.dmaCredit = N)
    {α : Type} {Q : α → sProp 𝕄} (R : Prog (TpuEff nD τ sig (Elt F) Λ₀ .tc) α) :
    iprop(records m ρ K ∗ doneInv m ρ c k)
      ⊢ iprop((doneInv m ρ c (k + 1) -∗ wp frame (wpE (defs₀ (F := F)) 𝒱₀ (c : Thread nD τ) none) Set.univ R Q)
          -∗ wp frame (wpE (defs₀ (F := F)) 𝒱₀ (c : Thread nD τ) none) Set.univ
              (if h : p then (Prog.lift (.waitDma2 ss src dst hsrc hdst) >>= fun _ => R) else R) Q) := by
  by_cases h : p
  · rw [dif_pos h]
    have hk := hp.mp h
    obtain ⟨d, hd⟩ : ∃ d : Dev nD, d.val = c.val + k + 1 := ⟨⟨c.val + k + 1, hk⟩, rfl⟩
    have hss : ss = sendSem (slot c d) := by
      rw [hs]; refine congrArg sendSem (Fin.ext ?_)
      show k = (d.val + 7 - c.val) % 8
      omega
    subst hss
    simp only [Prog.lift, Prog.bind_op, Prog.bind_ret]
    unfold doneInv
    rw [(sendLeft_step hd).1, take_one (sendLeft_step hd).2, (sent_step hd).1, take_one (sent_step hd).2]
    iintro ⟨#HR, HO, ⟨⟨Hc, Hat⟩, Hrest⟩, Hdone⟩ Hk
    ihave #Hv := (records_send m ρ K c d) $$ HR
    icases Hv with ⟨#HI, -⟩
    iapply (wait_close m ρ c (sendSem (slot c d)) (K (c, .inr (.inl (slot c d)))) (srcPts c (tok d) (sb m ρ c)) hN
      (expect_send m ρ c d (by omega)) (rest_send m ρ c d (by omega)) R) $$ [HO Hc Hat]
    · isplitr; · iexact HI
      isplitl [HO]; · iexact HO
      isplitl [Hc] <;> iassumption
    iintro ⟨HO, Hz, Hrow⟩
    iapply Hk
    isplitl [HO]; · iexact HO
    isplitl [Hrest]; · iexact Hrest
    isplitl [Hz Hrow]
    · isplitl [Hz] <;> iassumption
    iexact Hdone
  · rw [dif_neg h]
    have hk : ¬ c.val + k + 1 < 8 := fun h' => h (hp.mpr h')
    unfold doneInv
    rw [sendLeft_skip hk, sent_skip hk]
    iintro ⟨-, H⟩ Hk
    iapply Hk
    iexact H

end Cert.PrefixSum

end
-- ==== Proof.Body.lean ====
/-
# `Body`: the kernel, part by part

The printed kernel is five parts and a tail. Each part here is one statement: what it takes and what it leaves, the loops
in it walked by the step lemmas of `Steps`.
-/
module

public import proofs.«01_k».proof.Proof.Steps

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ) (c : Dev nD)

/-! ## The kernel's conditions and operands, at device `c` -/

/-- The word the kernel computes its device's number as. -/
abbrev myWord (c : Dev nD) : BitVec 32 := Scalar.remsi (Scalar.divsi (Dev.word c) 1#32) 8#32

/-- The kernel's test that a device's number is above `w`, and that `w` steps further is still a device. -/
abbrev BeforeCond (c : Dev nD) (w : BitVec 32) : Prop :=
  Scalar.cmpi .ne (Scalar.extui (Scalar.cmpi .sgt (myWord c) w) : BitVec 32) 0#32 = 1#1
/-- The printed condition that a device at distance `w` after `c` exists. -/
abbrev AfterCond (c : Dev nD) (w : BitVec 32) : Prop :=
  Scalar.cmpi .ne (Scalar.extui (Scalar.cmpi .slt (Scalar.addi (myWord c) w) 8#32) : BitVec 32) 0#32 = 1#1

/-- The conditions of the receive waits: device `k` comes before `c`. -/
theorem before_conds : ∀ c : Dev nD, (BeforeCond c 0#32 ↔ 0 < c.val) ∧ (BeforeCond c 1#32 ↔ 1 < c.val) ∧ (BeforeCond c 2#32 ↔ 2 < c.val)
    ∧ (BeforeCond c 3#32 ↔ 3 < c.val) ∧ (BeforeCond c 4#32 ↔ 4 < c.val) ∧ (BeforeCond c 5#32 ↔ 5 < c.val) ∧ (BeforeCond c 6#32 ↔ 6 < c.val) := by
  decide +kernel
/-- The conditions of the barrier waits and of the last waits: there is a device at that distance after `c`. -/
theorem after_conds : ∀ c : Dev nD, (AfterCond c 1#32 ↔ c.val + 0 + 1 < 8) ∧ (AfterCond c 2#32 ↔ c.val + 1 + 1 < 8)
    ∧ (AfterCond c 3#32 ↔ c.val + 2 + 1 < 8) ∧ (AfterCond c 4#32 ↔ c.val + 3 + 1 < 8) ∧ (AfterCond c 5#32 ↔ c.val + 4 + 1 < 8)
    ∧ (AfterCond c 6#32 ↔ c.val + 5 + 1 < 8) ∧ (AfterCond c 7#32 ↔ c.val + 6 + 1 < 8) := by
  decide +kernel

/-- The conditions of the signals: device `k` comes before `c`. -/
theorem sig_conds : ∀ c : Dev nD, (k0_cond1 c = 1#1 ↔ 0 < c.val) ∧ (k0_cond2 c = 1#1 ↔ 1 < c.val) ∧ (k0_cond3 c = 1#1 ↔ 2 < c.val)
    ∧ (k0_cond4 c = 1#1 ↔ 3 < c.val) ∧ (k0_cond5 c = 1#1 ↔ 4 < c.val) ∧ (k0_cond6 c = 1#1 ↔ 5 < c.val) ∧ (k0_cond7 c = 1#1 ↔ 6 < c.val) := by
  decide +kernel
/-- The conditions of the copies: there is a device at that distance after `c`. -/
theorem send_conds : ∀ c : Dev nD, (k0_cond15 c = 1#1 ↔ c.val + 0 + 1 < 8) ∧ (k0_cond16 c = 1#1 ↔ c.val + 1 + 1 < 8)
    ∧ (k0_cond17 c = 1#1 ↔ c.val + 2 + 1 < 8) ∧ (k0_cond18 c = 1#1 ↔ c.val + 3 + 1 < 8) ∧ (k0_cond19 c = 1#1 ↔ c.val + 4 + 1 < 8)
    ∧ (k0_cond20 c = 1#1 ↔ c.val + 5 + 1 < 8) ∧ (k0_cond21 c = 1#1 ↔ c.val + 6 + 1 < 8) := by
  decide +kernel

/-- A load at the head of a program. -/
theorem load_step {α : Type} {Q : α → sProp 𝕄} {s : Shape} {e : EltTy} {cs : CoreSpace} {mr : Memref sig .tc cs s e} {r : LoadRect s} {hl : mr.view.LoadsAt r}
    {k : (r.shape.Idx → Elt F e) → Prog (TpuEff nD τ sig (Elt F) Λ₀ .tc) α} {S : Finset (Idx (mr.view.loc (c : Thread nD τ)))} {q : PosShare TreeShare}
    {f : Buf (Elt F) (mr.view.loc (c : Thread nD τ))} (hS : mr.view.setOn r.set ⊆ S) :
    (mr.view.loc (c : Thread nD τ) ↦[S]{q} f)
      ⊢ iprop(((mr.view.loc (c : Thread nD τ) ↦[S]{q} f) -∗ wp frame (wpE (defs₀ (F := F)) 𝒱₀ (c : Thread nD τ) none) Set.univ (k (mr.view.readAt (Elt F) r f)) Q)
          -∗ wp frame (wpE (defs₀ (F := F)) 𝒱₀ (c : Thread nD τ) none) Set.univ (Prog.lift (.load mr r hl) >>= k) Q) := by
  simp only [Prog.lift, Prog.bind_op, Prog.bind_ret]
  exact wp_load 𝒱₀ (c : Thread nD τ) none Set.univ hS

/-- A store at the head of a program. -/
theorem store_step {α : Type} {Q : α → sProp 𝕄} {s : Shape} {e : EltTy} {cs : CoreSpace} {mr : Memref sig .tc cs s e} {r : Rect s} {w : r.shape.Idx → Elt F e} {Mk : Finset r.shape.Idx}
    {hx : (mr.access r).Stores Mk} {hm : Mk = Finset.univ ∨ ∀ a, r.stride a = 1}
    {k : PUnit → Prog (TpuEff nD τ sig (Elt F) Λ₀ .tc) α} {S : Finset (Idx ((mr.access r).loc (c : Thread nD τ)))}
    {f : Buf (Elt F) ((mr.access r).loc (c : Thread nD τ))} (hS : (mr.access r).setOn Mk ⊆ S) :
    ((mr.access r).loc (c : Thread nD τ) ↦[S]{fullShare} f)
      ⊢ iprop((((mr.access r).loc (c : Thread nD τ) ↦[S]{fullShare} ((mr.access r).write (Elt F) f w Mk))
            -∗ wp frame (wpE (defs₀ (F := F)) 𝒱₀ (c : Thread nD τ) none) Set.univ (k ⟨⟩) Q)
          -∗ wp frame (wpE (defs₀ (F := F)) 𝒱₀ (c : Thread nD τ) none) Set.univ (Prog.lift (.store mr r w Mk hx hm) >>= k) Q) := by
  simp only [Prog.lift, Prog.bind_op, Prog.bind_ret]
  exact wp_store 𝒱₀ (c : Thread nD τ) none Set.univ hS

/-- Reading the device's own number at the head of a program. -/
theorem device_step {α : Type} {Q : α → sProp 𝕄} {k : Dev nD → Prog (TpuEff nD τ sig (Elt F) Λ₀ .tc) α} :
    wp frame (wpE (defs₀ (F := F)) 𝒱₀ (c : Thread nD τ) none) Set.univ (k c) Q
      ⊢ wp frame (wpE (defs₀ (F := F)) 𝒱₀ (c : Thread nD τ) none) Set.univ (Prog.lift .deviceId >>= k) Q := by
  simp only [Prog.lift, Prog.bind_op, Prog.bind_ret, wp_deviceId]
  exact BI.Entails.refl _

/-- The end of a program. -/
theorem pure_step {α : Type} {Q : α → sProp 𝕄} (a : α) :
    Q a ⊢ wp frame (wpE (defs₀ (F := F)) 𝒱₀ (c : Thread nD τ) none) Set.univ (pure a : Prog (TpuEff nD τ sig (Elt F) Λ₀ .tc) α) Q := by
  rw [Prog.pure_eq_ret, wp_ret]
  iintro H; imodintro; iexact H

/-! ## The buffers at their full extent -/

abbrev xRect : Rect S512x512 := Rect.unit ![0, 0] S512x512.size inb_S512x512_S512x512_0_0

omit [FloatOps F] in
/-- The offset of a whole matrix is zero. -/
theorem zero2 : (![0, 0] : Fin 2 → Nat) = fun _ => 0 := funext fun a => by fin_cases a <;> rfl
omit [FloatOps F] in
/-- The offset of a whole buffer with three axes is zero. -/
theorem zero3 : (![0, 0, 0] : Fin 3 → Nat) = fun _ => 0 := funext fun a => by fin_cases a <;> rfl
omit [FloatOps F] in
/-- Reading the whole block of `x` gives its contents. -/
theorem read_x (f : (cc0_stg0_0 : Ref sig .tc).ty.Contents (Elt F)) : xM.view.readAt (Elt F) xRect.toLoadRect f = f :=
  Memref.readAt_unit_zero (Elt F) cc0_stg0_0 zero2 _ f
omit [FloatOps F] in
/-- Reading the whole result buffer gives its contents. -/
theorem read_o (f : (cc0_stg1_0 : Ref sig .tc).ty.Contents (Elt F)) : oM.view.readAt (Elt F) xRect.toLoadRect f = f :=
  Memref.readAt_unit_zero (Elt F) cc0_stg1_0 zero2 _ f
omit [FloatOps F] in
/-- Reading the whole gather buffer gives its contents. -/
theorem read_g (f : (cc0_scratch1 : Ref sig .tc).ty.Contents (Elt F)) :
    gM.view.readAt (Elt F) (Rect.unit (s := S8x1x512) ![0, 0, 0] S8x1x512.size inb_S8x1x512_S8x1x512_0_0_0).toLoadRect f = f :=
  Memref.readAt_unit_zero (Elt F) cc0_scratch1 zero3 _ f
omit [FloatOps F] in
/-- Writing the whole result buffer leaves what was written. -/
theorem write_o (f w : (cc0_stg1_0 : Ref sig .tc).ty.Contents (Elt F)) :
    (oM.access xRect : View sig .tc _ _ _).write (Elt F) f w Finset.univ = w :=
  Memref.write_access_unit_zero_univ (Elt F) cc0_stg1_0 zero2 _ f w

/-- The whole of a device's buffers, at given contents. -/
abbrev xAll (f : (cc0_stg0_0 : Ref sig .tc).ty.Contents (Elt F)) : sProp 𝕄 := ((c : Thread nD τ).loc cc0_stg0_0) ↦{fullShare} f
/-- The whole result buffer of `c`, with its contents. -/
abbrev oAll (f : (cc0_stg1_0 : Ref sig .tc).ty.Contents (Elt F)) : sProp 𝕄 := ((c : Thread nD τ).loc cc0_stg1_0) ↦{fullShare} f
/-- The whole send buffer of `c`, with its contents. -/
abbrev bAll (f : (cc0_scratch0 : Ref sig .tc).ty.Contents (Elt F)) : sProp 𝕄 := ((c : Thread nD τ).loc cc0_scratch0) ↦{fullShare} f
/-- The whole gather buffer of `c`, with its contents. -/
abbrev gAll (f : (cc0_scratch1 : Ref sig .tc).ty.Contents (Elt F)) : sProp 𝕄 := ((c : Thread nD τ).loc cc0_scratch1) ↦{fullShare} f

/-! ## Part 1: the signals, and the column sums -/

theorem part1_spec {Q : (Σ' (d0 : Dev nD) (v2 : BitVec 32) (v3 : Sems sig S_), FVec F S1x512 .f32) → sProp 𝕄}
    (fb : (cc0_scratch0 : Ref sig .tc).ty.Contents (Elt F)) :
    iprop(records m ρ K ∗ sigInv c 0 ∗ xAll c (xstg m ρ c) ∗ bAll c fb)
      ⊢ iprop(((sigInv c 7 ∗ xAll c (xstg m ρ c) ∗ bAll c fb)
            -∗ Q ⟨c, myWord c, SemArray.scalar (sig.barrier 0 rfl), k0_pay1 (xstg m ρ c)⟩)
          -∗ wp frame (wpE (defs₀ (F := F)) 𝒱₀ (c : Thread nD τ) none) Set.univ
              (k0_part1 xM (Memref.isWhole_whole _) oM (Memref.isWhole_whole _) bM (Memref.isWhole_whole _) gM (Memref.isWhole_whole _)
                cc0_scratch2 cc0_scratch3) Q) := by
  rw [k0_part1_eq_skeleton]; unfold k0_part1_skel
  obtain ⟨h1, h2, h3, h4, h5, h6, h7⟩ := sig_conds c
  iintro ⟨#HR, HS, Hx, Hb⟩ Hk
  iapply (device_step c)
  iapply (sig_step m ρ K c 0 _ h1 _ (fun _ => k0_dev1_eq)) $$ [HS]
  · isplitr; · iexact HR
    iexact HS
  iintro HS
  iapply (sig_step m ρ K c 1 _ h2 _ (fun _ => k0_dev2_eq)) $$ [HS]
  · isplitr; · iexact HR
    iexact HS
  iintro HS
  iapply (sig_step m ρ K c 2 _ h3 _ (fun _ => k0_dev3_eq)) $$ [HS]
  · isplitr; · iexact HR
    iexact HS
  iintro HS
  iapply (sig_step m ρ K c 3 _ h4 _ (fun _ => k0_dev4_eq)) $$ [HS]
  · isplitr; · iexact HR
    iexact HS
  iintro HS
  iapply (sig_step m ρ K c 4 _ h5 _ (fun _ => k0_dev5_eq)) $$ [HS]
  · isplitr; · iexact HR
    iexact HS
  iintro HS
  iapply (sig_step m ρ K c 5 _ h6 _ (fun _ => k0_dev6_eq)) $$ [HS]
  · isplitr; · iexact HR
    iexact HS
  iintro HS
  iapply (sig_step m ρ K c 6 _ h7 _ (fun _ => k0_dev7_eq)) $$ [HS]
  · isplitr; · iexact HR
    iexact HS
  iintro HS
  iapply (load_step c (mr := xM) (Finset.subset_univ _)) $$ Hx; iintro Hx
  rw [read_x]
  iapply (load_step c (mr := bM) (Finset.subset_univ _)) $$ Hb; iintro Hb
  iapply (pure_step c)
  iapply Hk
  isplitl [HS]; · iexact HS
  isplitl [Hx] <;> iassumption

end Cert.PrefixSum

end
-- ==== Proof.Buffers.lean ====
/-
# `Buffers`: the send buffer cut into shares of its sent row, the gather buffer cut into its rows

The row a device sends is read by up to seven transfers at once, so its ownership is dealt into eight read shares (one per
device) and a remainder. The gather buffer is written by its peers, so it is dealt row by row.
-/
module

public import proofs.«01_k».proof.Proof.Body

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The send buffer -/

/-- The send buffer once the row of sums has been stored into its row 0. -/
abbrev sumStored (fb : (cc0_scratch0 : Ref sig .tc).ty.Contents (Elt F)) : (cc0_scratch0 : Ref sig .tc).ty.Contents (Elt F) :=
  (bM.access srcR : View sig .tc _ _ _).write (Elt F) fb (k0_pay2 (k0_pay1 (xstg m ρ c))) Finset.univ

/-- On row 0 the stored send buffer holds the row of sums. -/
theorem sumStored_row (fb : (cc0_scratch0 : Ref sig .tc).ty.Contents (Elt F)) (i : S8x512.Idx) (hi : i ∈ srcM.view.set) :
    sumStored m ρ c fb i = sb m ρ c i := by
  rw [View.set, Finset.mem_map] at hi
  obtain ⟨x, -, rfl⟩ := hi
  refine (View.write_emb_of_mem (v := (bM.access srcR : View sig .tc _ _ _)) fb _ (Finset.mem_univ x)).trans ?_
  obtain ⟨a, b, rfl⟩ : ∃ (a : Fin 1) (b : Fin 512), x = ix2 a b := ⟨x 0, x 1, ValueIdx.eq_ix2 x⟩
  rw [src_emb]
  obtain rfl : a = 0 := Subsingleton.elim _ _
  rfl

/-- What stays of the send buffer besides the dealt read shares: a share of its row 0, and its other rows. -/
def srcRest : sProp 𝕄 :=
  iprop(srcPts c (Transfers.shareDrop fullShare 8) (sb m ρ c)
    ∗ ∃ f : (cc0_scratch0 : Ref sig .tc).ty.Contents (Elt F),
        ((c : Thread nD τ).loc cc0_scratch0) ↦[Finset.univ \ (srcM.view.set : Finset S8x512.Idx)]{fullShare} f)

/-- After the row of sums is stored, the send buffer splits into one share of that row for each destination, and the rest. -/
theorem src_open (fb : (cc0_scratch0 : Ref sig .tc).ty.Contents (Elt F)) :
    bAll c (sumStored m ρ c fb) ⊢ iprop((bigSep Finset.univ fun d => srcPts c (tok d) (sb m ρ c)) ∗ srcRest m ρ c) := by
  unfold srcRest srcPts bAll
  iintro Hb
  ihave Hb := (pointsTo_split_subset (Finset.subset_univ (srcM.view.set : Finset S8x512.Idx))).1 $$ Hb
  icases Hb with ⟨Hr, Hrest⟩
  ihave Hr := (Entails.of_eq (pointsTo_congr (ℓ := (c : Thread nD τ).loc cc0_scratch0) (sumStored_row m ρ c fb))) $$ Hr
  ihave Hr := (Transfers.pointsTo_toks_split fullShare 8) $$ Hr
  icases Hr with ⟨Hd, Ht⟩
  isplitl [Ht]; · iexact Ht
  isplitl [Hd]; · iexact Hd
  iexists _; iexact Hrest

/-- The shares of the sent row and the rest make the whole send buffer again. -/
theorem src_close :
    iprop((bigSep Finset.univ fun d => srcPts c (tok d) (sb m ρ c)) ∗ srcRest m ρ c) ⊢ (iprop(∃ f, bAll c f) : sProp 𝕄) := by
  unfold srcRest srcPts bAll
  iintro ⟨Ht, Hd, %f, Hrest⟩
  ihave Hr := (Transfers.pointsTo_toks_join fullShare 8 (ℓ := (c : Thread nD τ).loc cc0_scratch0)) $$ [Ht Hd]
  · isplitl [Hd]; · iexact Hd
    iexact Ht
  iexists _
  iapply (pointsTo_join_subset (Finset.subset_univ (srcM.view.set : Finset S8x512.Idx)))
  isplitl [Hr]; · iexact Hr
  iexact Hrest

/-! ## The gather buffer -/

/-- The elements of row `j`. -/
abbrev rowSet (j : Dev nD) : Finset S8x1x512.Idx := (rowM j).view.set

/-- The eight rows make up the gather buffer. -/
theorem rows_cover : (Finset.univ : Finset (Dev nD)).biUnion rowSet = Finset.univ := by
  refine Finset.eq_univ_iff_forall.mpr fun i => Finset.mem_biUnion.mpr ⟨i 0, Finset.mem_univ _, (mem_row _ i).mpr rfl⟩
/-- Different rows of the gather buffer have no element in common. -/
theorem rows_disjoint (j j' : Dev nD) (h : j ≠ j') :
    Disjoint ((rowM j).view.set : Finset S8x1x512.Idx) ((rowM j').view.set : Finset S8x1x512.Idx) :=
  Finset.disjoint_left.mpr fun i hi hi' => h (Fin.ext (((mem_row j i).mp hi).symm.trans ((mem_row j' i).mp hi')))

/-- A whole gather buffer is its eight rows. -/
theorem rows_split (f : (cc0_scratch1 : Ref sig .tc).ty.Contents (Elt F)) :
    (gAll c f : sProp 𝕄) = bigSep Finset.univ fun j => rowPts c j f := by
  unfold rowPts
  refine Eq.trans ?_ (pointsTo_biUnion (ℓ := (c : Thread nD τ).loc cc0_scratch1) Finset.univ
    rowSet fun j _ j' _ h => rows_disjoint j j' h)
  rw [rows_cover]

/-- The rows that have come and the rows never sent to, put back together: a gather buffer that agrees with the fully
    arrived one on every row before `c`. -/
theorem rows_join :
    iprop((bigSep (sigLeft c 0) fun j => rowPts c j (gl m ρ)) ∗ bigSep (Finset.univ \ sigLeft c 0) fun j => iprop(∃ f, rowPts (F := F) c j f))
      ⊢ (iprop(∃ g, ⌜∀ i : S8x1x512.Idx, (i 0).val < c.val → g i = gl m ρ i⌝ ∗ gAll c g) : sProp 𝕄) := by
  iintro ⟨Hg, Hi⟩
  ihave Hi := (bigSep_exists_pi (Finset.univ \ sigLeft c 0) (fun (j : Dev nD) (f : (cc0_scratch1 : Ref sig .tc).ty.Contents (Elt F)) => (rowPts c j f : sProp 𝕄))) $$ Hi
  icases Hi with ⟨%fs, Hi⟩
  have key : iprop((bigSep (sigLeft c 0) fun j => rowPts c j (gl m ρ)) ∗ bigSep (Finset.univ \ sigLeft c 0) fun j => rowPts c j (fs j))
      = (bigSep Finset.univ fun j => rowPts c j (if j ∈ sigLeft c 0 then gl m ρ else fs j) : sProp 𝕄) := by
    rw [take_part (Finset.subset_univ (sigLeft c 0))]
    congr 1
    · exact bigSep_congr fun j hj => by rw [if_pos hj]
    · exact bigSep_congr fun j hj => by rw [if_neg (Finset.mem_sdiff.mp hj).2]
  ihave H := (Entails.of_eq key) $$ [Hg Hi]
  · isplitl [Hg] <;> iassumption
  unfold rowPts
  ihave H := (pointsTo_biUnion_join (ℓ := (c : Thread nD τ).loc cc0_scratch1) Finset.univ
    rowSet (fun j => if j ∈ sigLeft c 0 then gl m ρ else fs j) (gl m ρ)
    fun j _ j' _ h => rows_disjoint j j' h) $$ H
  icases H with ⟨%g, %hg, H⟩
  iexists g
  isplitr
  · ipureintro
    intro i hi
    have := hg (i 0) (Finset.mem_univ _) i ((mem_row _ i).mpr rfl)
    rw [if_pos (mem_sigLeft.mpr ⟨Nat.zero_le _, hi⟩)] at this
    exact this
  rw [rows_cover]; iexact H

end Cert.PrefixSum

end
-- ==== Proof.Parts.lean ====
/-
# `Parts`: what each of the kernel's parts 2 to 5 takes and leaves

The loops are walked by the step lemmas, one application per written-out step.
-/
module

public import proofs.«01_k».proof.Proof.Buffers

@[expose] public section

set_option maxRecDepth 16384
set_option maxHeartbeats 4000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ) (c : Dev nD)

/-! ## Part 2: the row of sums stored, and the barrier waits -/

/-- Part 2 stores the row of sums and takes all seven barrier waits. -/
theorem part2_spec {Q : BitVec 32 → sProp 𝕄} (fb : (cc0_scratch0 : Ref sig .tc).ty.Contents (Elt F)) :
    iprop(records m ρ K ∗ barInv c 0 ∗ bAll c fb)
      ⊢ iprop((∀ w, (barInv c 7 ∗ bAll c (sumStored m ρ c fb)) -∗ Q w)
          -∗ wp frame (wpE (defs₀ (F := F)) 𝒱₀ (c : Thread nD τ) none) Set.univ
              (k0_part2 xM (Memref.isWhole_whole _) oM (Memref.isWhole_whole _) bM (Memref.isWhole_whole _) gM (Memref.isWhole_whole _)
                cc0_scratch2 cc0_scratch3 (myWord c) (SemArray.scalar (sig.barrier 0 rfl)) (k0_pay1 (xstg m ρ c))) Q) := by
  rw [k0_part2_eq_skeleton]; unfold k0_part2_skel
  obtain ⟨h1, h2, h3, h4, h5, h6, h7⟩ := after_conds c
  iintro ⟨#HR, HS, Hb⟩ Hk
  iapply (store_step c (mr := bM) (r := srcR) (Mk := Finset.univ) (Finset.subset_univ _)) $$ Hb; iintro Hb
  iapply (bar_step m ρ K c 0 _ h1 _) $$ [HS]
  · isplitr; · iexact HR
    iexact HS
  iintro HS
  iapply (bar_step m ρ K c 1 _ h2 _) $$ [HS]
  · isplitr; · iexact HR
    iexact HS
  iintro HS
  iapply (bar_step m ρ K c 2 _ h3 _) $$ [HS]
  · isplitr; · iexact HR
    iexact HS
  iintro HS
  iapply (bar_step m ρ K c 3 _ h4 _) $$ [HS]
  · isplitr; · iexact HR
    iexact HS
  iintro HS
  iapply (bar_step m ρ K c 4 _ h5 _) $$ [HS]
  · isplitr; · iexact HR
    iexact HS
  iintro HS
  iapply (bar_step m ρ K c 5 _ h6 _) $$ [HS]
  · isplitr; · iexact HR
    iexact HS
  iintro HS
  iapply (bar_step m ρ K c 6 _ h7 _) $$ [HS]
  · isplitr; · iexact HR
    iexact HS
  iintro HS
  iapply (pure_step c)
  iapply Hk
  isplitl [HS]; · iexact HS
  iexact Hb

/-! ## Part 3: the transfers -/

omit [FloatOps F] in
/-- The row of the gather buffer a transfer writes, however its offset is given. -/
theorem row_at (off : Fin 3 → Nat) (h : off = ![c.val, 0, 0]) (inb : ∀ a, off a + S1x1x512.size a ≤ S8x1x512.size a) :
    (gM.slice (Rect.unit (s := S8x1x512) off S1x1x512.size inb) (fun _ => rfl)).squeeze S1x512 squeezes_S1x1x512_S1x512 = rowM c := by
  subst h; rfl

/-- Part 3 makes all the transfers, and computes the triangle of ones. -/
theorem part3_spec {Q : FVec F S512x512 .f32 → sProp 𝕄} (w v : BitVec 32) :
    iprop(records m ρ K ∗ sendInv m ρ c 0)
      ⊢ iprop((sendInv m ρ c 7 -∗ Q (k0_pay3 (F := F)))
          -∗ wp frame (wpE (defs₀ (F := F)) 𝒱₀ (c : Thread nD τ) none) Set.univ
              (k0_part3 xM (Memref.isWhole_whole _) oM (Memref.isWhole_whole _) bM (Memref.isWhole_whole _) gM (Memref.isWhole_whole _)
                cc0_scratch2 cc0_scratch3 c w v) Q) := by
  rw [k0_part3_eq_skeleton]; unfold k0_part3_skel
  obtain ⟨h1, h2, h3, h4, h5, h6, h7⟩ := send_conds c
  iintro ⟨#HR, HS⟩ Hk
  iapply (send_step m ρ K c 0 _ h1 (fun h => ⟨k0_dev8 c, k0_dev8_lt c h⟩) (fun _ => k0_dev8_eq c) _ (fun _ => row_at c _ (k0_off2_eq c) _)
      _ _ (fun _ => sem_send _ 0 rfl _) (fun _ => sem_recv _ c (k0_off1_eq c) _) _) $$ [HS]
  · isplitr; · iexact HR
    iexact HS
  iintro HS
  iapply (send_step m ρ K c 1 _ h2 (fun h => ⟨k0_dev9 c, k0_dev9_lt c h⟩) (fun _ => k0_dev9_eq c) _ (fun _ => row_at c _ (k0_off4_eq c) _)
      _ _ (fun _ => sem_send _ 1 rfl _) (fun _ => sem_recv _ c (k0_off3_eq c) _) _) $$ [HS]
  · isplitr; · iexact HR
    iexact HS
  iintro HS
  iapply (send_step m ρ K c 2 _ h3 (fun h => ⟨k0_dev10 c, k0_dev10_lt c h⟩) (fun _ => k0_dev10_eq c) _ (fun _ => row_at c _ (k0_off6_eq c) _)
      _ _ (fun _ => sem_send _ 2 rfl _) (fun _ => sem_recv _ c (k0_off5_eq c) _) _) $$ [HS]
  · isplitr; · iexact HR
    iexact HS
  iintro HS
  iapply (send_step m ρ K c 3 _ h4 (fun h => ⟨k0_dev11 c, k0_dev11_lt c h⟩) (fun _ => k0_dev11_eq c) _ (fun _ => row_at c _ (k0_off8_eq c) _)
      _ _ (fun _ => sem_send _ 3 rfl _) (fun _ => sem_recv _ c (k0_off7_eq c) _) _) $$ [HS]
  · isplitr; · iexact HR
    iexact HS
  iintro HS
  iapply (send_step m ρ K c 4 _ h5 (fun h => ⟨k0_dev12 c, k0_dev12_lt c h⟩) (fun _ => k0_dev12_eq c) _ (fun _ => row_at c _ (k0_off10_eq c) _)
      _ _ (fun _ => sem_send _ 4 rfl _) (fun _ => sem_recv _ c (k0_off9_eq c) _) _) $$ [HS]
  · isplitr; · iexact HR
    iexact HS
  iintro HS
  iapply (send_step m ρ K c 5 _ h6 (fun h => ⟨k0_dev13 c, k0_dev13_lt c h⟩) (fun _ => k0_dev13_eq c) _ (fun _ => row_at c _ (k0_off12_eq c) _)
      _ _ (fun _ => sem_send _ 5 rfl _) (fun _ => sem_recv _ c (k0_off11_eq c) _) _) $$ [HS]
  · isplitr; · iexact HR
    iexact HS
  iintro HS
  iapply (send_step m ρ K c 6 _ h7 (fun h => ⟨k0_dev14 c, k0_dev14_lt c h⟩) (fun _ => k0_dev14_eq c) _ (fun _ => row_at c _ (k0_off14_eq c) _)
      _ _ (fun _ => sem_send _ 6 rfl _) (fun _ => sem_recv _ c (k0_off13_eq c) _) _) $$ [HS]
  · isplitr; · iexact HR
    iexact HS
  iintro HS
  iapply (pure_step c)
  iapply Hk
  iexact HS

/-! ## Part 4: the block's own prefix sums, the receive waits, and the gather buffer read -/

/-- Part 4 stores the block's own prefix sums, takes the receive waits and reads the whole gather buffer, whose rows
    before `c` have then arrived. -/
theorem part4_spec {Q : (Σ' (v119 : FVec F S8x512 .f32) (v122 : IVec S8x512 1), F .f32) → sProp 𝕄} (v : FVec F S512x512 .f32)
    (fo : (cc0_stg1_0 : Ref sig .tc).ty.Contents (Elt F)) :
    iprop(records m ρ K ∗ recvInv m ρ c 0 ∗ xAll c (xstg m ρ c) ∗ oAll c fo ∗ bigSep (Finset.univ \ sigLeft c 0) fun j => iprop(∃ f, rowPts (F := F) c j f))
      ⊢ iprop((∀ g, ⌜∀ i : S8x1x512.Idx, (i 0).val < c.val → g i = gl m ρ i⌝
              -∗ ((∃ W, owes (c : Thread nD τ) 0 W) ∗ (bigSep (sigLeft c 0) fun j => semVal (recvCell c j) 0)
                ∗ xAll c (xstg m ρ c) ∗ oAll c (k0_pay4 v (xstg m ρ c)) ∗ gAll c g)
              -∗ Q ⟨k0_pay5 g, k0_pay6 (myWord c), Scalar.ofBits .f32 0x00000000#32⟩)
          -∗ wp frame (wpE (defs₀ (F := F)) 𝒱₀ (c : Thread nD τ) none) Set.univ
              (k0_part4 xM (Memref.isWhole_whole _) oM (Memref.isWhole_whole _) bM (Memref.isWhole_whole _) gM (Memref.isWhole_whole _)
                cc0_scratch2 cc0_scratch3 (myWord c) v) Q) := by
  rw [k0_part4_eq_skeleton]; unfold k0_part4_skel
  obtain ⟨h1, h2, h3, h4, h5, h6, h7⟩ := before_conds c
  iintro ⟨#HR, HS, Hx, Ho, Hidle⟩ Hk
  iapply (load_step c (mr := xM) (Finset.subset_univ _)) $$ Hx; iintro Hx
  rw [read_x]
  iapply (load_step c (mr := oM) (Finset.subset_univ _)) $$ Ho; iintro Ho
  iapply (store_step c (mr := oM) (r := xRect) (Mk := Finset.univ) (Finset.subset_univ _)) $$ Ho; iintro Ho
  rw [write_o]
  iapply (recv_step m ρ K c 0 (by decide) _ h1 _ (sem_recv _ 0 rfl _) (N_row 0) _) $$ [HS]
  · isplitr; · iexact HR
    iexact HS
  iintro HS
  iapply (recv_step m ρ K c 1 (by decide) _ h2 _ (sem_recv _ 1 rfl _) (N_row 1) _) $$ [HS]
  · isplitr; · iexact HR
    iexact HS
  iintro HS
  iapply (recv_step m ρ K c 2 (by decide) _ h3 _ (sem_recv _ 2 rfl _) (N_row 2) _) $$ [HS]
  · isplitr; · iexact HR
    iexact HS
  iintro HS
  iapply (recv_step m ρ K c 3 (by decide) _ h4 _ (sem_recv _ 3 rfl _) (N_row 3) _) $$ [HS]
  · isplitr; · iexact HR
    iexact HS
  iintro HS
  iapply (recv_step m ρ K c 4 (by decide) _ h5 _ (sem_recv _ 4 rfl _) (N_row 4) _) $$ [HS]
  · isplitr; · iexact HR
    iexact HS
  iintro HS
  iapply (recv_step m ρ K c 5 (by decide) _ h6 _ (sem_recv _ 5 rfl _) (N_row 5) _) $$ [HS]
  · isplitr; · iexact HR
    iexact HS
  iintro HS
  iapply (recv_step m ρ K c 6 (by decide) _ h7 _ (sem_recv _ 6 rfl _) (N_row 6) _) $$ [HS]
  · isplitr; · iexact HR
    iexact HS
  iintro HS
  unfold recvInv
  rw [got_end, bigSep_sep', bigSep_sep']
  icases HS with ⟨HO, -, Hz, Hrows⟩
  ihave Hg := (rows_join m ρ c) $$ [Hrows Hidle]
  · isplitl [Hrows] <;> iassumption
  icases Hg with ⟨%g, %hg, Hg⟩
  iapply (load_step c (mr := gM) (Finset.subset_univ _)) $$ Hg; iintro Hg
  rw [read_g]
  iapply (pure_step c)
  iapply Hk $$ %g
  · ipureintro; exact hg
  isplitl [HO]; · iexact HO
  isplitl [Hz]; · iexact Hz
  isplitl [Hx]; · iexact Hx
  isplitl [Ho] <;> iassumption

/-! ## Part 5: the sums of the blocks before added in, and the first five send waits -/

/-- Part 5 adds the sums of the blocks before into the result, and takes five of the seven send waits. -/
theorem part5_spec {Q : BitVec 32 → sProp 𝕄} (v119 : FVec F S8x512 .f32) (v122 : IVec S8x512 1) (cst : F .f32)
    (fo : (cc0_stg1_0 : Ref sig .tc).ty.Contents (Elt F)) :
    iprop(records m ρ K ∗ doneInv m ρ c 0 ∗ oAll c fo)
      ⊢ iprop(((doneInv m ρ c 5 ∗ oAll c (k0_pay7 v119 v122 cst fo))
            -∗ Q (Scalar.extui (Scalar.cmpi .slt (Scalar.addi (myWord c) 6#32) 8#32)))
          -∗ wp frame (wpE (defs₀ (F := F)) 𝒱₀ (c : Thread nD τ) none) Set.univ
              (k0_part5 xM (Memref.isWhole_whole _) oM (Memref.isWhole_whole _) bM (Memref.isWhole_whole _) gM (Memref.isWhole_whole _)
                cc0_scratch2 cc0_scratch3 (myWord c) v119 v122 cst) Q) := by
  rw [k0_part5_eq_skeleton]; unfold k0_part5_skel
  obtain ⟨h1, h2, h3, h4, h5, h6, h7⟩ := after_conds c
  iintro ⟨#HR, HS, Ho⟩ Hk
  iapply (load_step c (mr := oM) (Finset.subset_univ _)) $$ Ho; iintro Ho
  rw [read_o]
  iapply (load_step c (mr := oM) (Finset.subset_univ _)) $$ Ho; iintro Ho
  iapply (store_step c (mr := oM) (r := xRect) (Mk := Finset.univ) (Finset.subset_univ _)) $$ Ho; iintro Ho
  rw [write_o]
  iapply (done_step m ρ K c 0 (by decide) _ h1 _ (sem_send _ 0 rfl _) N_src _) $$ [HS]
  · isplitr; · iexact HR
    iexact HS
  iintro HS
  iapply (done_step m ρ K c 1 (by decide) _ h2 _ (sem_send _ 1 rfl _) N_src _) $$ [HS]
  · isplitr; · iexact HR
    iexact HS
  iintro HS
  iapply (done_step m ρ K c 2 (by decide) _ h3 _ (sem_send _ 2 rfl _) N_src _) $$ [HS]
  · isplitr; · iexact HR
    iexact HS
  iintro HS
  iapply (done_step m ρ K c 3 (by decide) _ h4 _ (sem_send _ 3 rfl _) N_src _) $$ [HS]
  · isplitr; · iexact HR
    iexact HS
  iintro HS
  iapply (done_step m ρ K c 4 (by decide) _ h5 _ (sem_send _ 4 rfl _) N_src _) $$ [HS]
  · isplitr; · iexact HR
    iexact HS
  iintro HS
  iapply (pure_step c)
  iapply Hk
  isplitl [HS]; · iexact HS
  iexact Ho

end Cert.PrefixSum

end
-- ==== Proof.Whole.lean ====
/-
# `Whole`: the kernel on one device, from its launch resources to its result

The parts are put one after the other. Between two parts the resources are re-dealt: rows of the gather buffer into those
given away and those kept, shares of the sent row into those lent and those kept, semaphore positions into those of cells
that take part on this device and those that do not.
-/
module

public import proofs.«01_k».proof.Proof.Parts
public import Idealize.ShloMosaic.Lib.Rounds.Family

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ) (c : Dev nD)

/-! ## The result: only the rows that have arrived count -/

/-- Row `r` is selected by the kernel's mask on device `c` exactly when `r < c`. -/
theorem mask_word : ∀ (c : Dev nD) (r : Fin 8), IntOp.cmpi .slt (BitVec.ofNat 32 (0 * 8 + r.val)) (myWord c) = 1#1 ↔ r.val < c.val := by
  decide +kernel
/-- The mask keeps the rows of the devices before `c`. -/
theorem mask_at (i : S8x512.Idx) : k0_pay6 (myWord c) i = 1#1 ↔ (i 0).val < c.val := mask_word c (i 0)

/-- The gather buffer with its unit axis dropped. -/
theorem gathered_at (g : Vec F S8x1x512 .f32) (a : Fin 8) (b : Fin 512) : k0_pay5 g (ix2 a b) = g (ix3 a 0 b) :=
  shapeCast_apply g _ _ _ (by
    rw [Shape.rowMajor_val_three, Shape.rowMajor_val_two]
    show (a.val * 1 + 0) * 512 + b.val = a.val * 512 + b.val
    omega)

/-- The kernel's result on device `c`: the block's own prefix sums, plus the selected rows of sums, added up. -/
def outAt : (cc0_stg1_0 : Ref sig .tc).ty.Contents (Elt F) :=
  k0_pay7 (k0_pay5 (gl m ρ)) (k0_pay6 (myWord c)) (Scalar.ofBits .f32 0x00000000#32) (k0_pay4 (k0_pay3 (F := F)) (xstg m ρ c))

/-- A gather buffer that agrees with the fully arrived one on the rows before `c` gives the same result. -/
theorem out_eq (g : (cc0_scratch1 : Ref sig .tc).ty.Contents (Elt F)) (hg : ∀ i : S8x1x512.Idx, (i 0).val < c.val → g i = gl m ρ i) :
    k0_pay7 (k0_pay5 g) (k0_pay6 (myWord c)) (Scalar.ofBits .f32 0x00000000#32) (k0_pay4 (k0_pay3 (F := F)) (xstg m ρ c)) = outAt m ρ c := by
  have key (z : FVec F S8x512 .f32) : select (k0_pay6 (myWord c)) (k0_pay5 g) z = select (k0_pay6 (myWord c)) (k0_pay5 (gl m ρ)) z := by
    funext i
    obtain ⟨a, b, rfl⟩ : ∃ (a : Fin 8) (b : Fin 512), i = ix2 a b := ⟨i 0, i 1, ValueIdx.eq_ix2 i⟩
    unfold select Scalar.select
    by_cases h : k0_pay6 (myWord c) (ix2 a b) = 1
    · rw [if_pos h, if_pos h, gathered_at, gathered_at]
      exact hg _ ((mask_at c _).mp h)
    · rw [if_neg h, if_neg h]
  unfold outAt k0_pay7
  dsimp only
  rw [key]

/-! ## Resources re-dealt between the parts -/

theorem rows_open (f : (cc0_scratch1 : Ref sig .tc).ty.Contents (Elt F)) :
    gAll c f ⊢ (iprop((bigSep (sigLeft c 0) fun j => iprop(∃ f, rowPts (F := F) c j f))
      ∗ bigSep (Finset.univ \ sigLeft c 0) fun j => iprop(∃ f, rowPts (F := F) c j f)) : sProp 𝕄) := by
  rw [rows_split, ← take_part (Finset.subset_univ (sigLeft c 0)) (fun j => iprop(∃ f, rowPts (F := F) c j f))]
  refine bigSep_mono fun j _ => (show rowPts c j f ⊢ (iprop(∃ f, rowPts (F := F) c j f) : sProp 𝕄) from ?_)
  iintro H; iexists f; iexact H

/-- What a device starts the kernel from, its buffers aside: its positions at its own cells, the duties it pays, the
    credit its waits use, and what it owes. -/
def bodyStart : sProp 𝕄 :=
  iprop(records m ρ K
    ∗ (atPos ER (barCell c) 0 ∅ 0 ∗ (bigSep Finset.univ fun d => atPos ER (sendCell c d) 0 ∅ 0) ∗ bigSep Finset.univ fun j => atPos ER (recvCell c j) 0 ∅ 0)
    ∗ ((bigSep (sigLeft c 0) fun j => dutyTok ER (barCell j) 0 c)
      ∗ bigSep (sendLeft c 0) fun d => iprop(dutyTok ER (recvCell d c) 0 c ∗ dutyTok ER (sendCell c d) 0 d))
    ∗ (cred (tallyAt (barCell c) () (7 - c.val)) ∗ (bigSep (sigLeft c 0) fun j => cred (tallyAt (recvCell c j) () N)) ∗ levAts L lv))

/-- What it ends with: all its counters at zero. -/
def bodyEnd : sProp 𝕄 :=
  iprop(semVal (barCell c) 0 ∗ (bigSep Finset.univ fun d => semVal (sendCell c d) 0) ∗ bigSep Finset.univ fun j => semVal (recvCell c j) 0)

/-- What the signals start from. -/
theorem sig_begin :
    iprop((∃ W, owes (c : Thread nD τ) (O₀ c) W) ∗ (bigSep (sigLeft c 0) fun j => dutyTok ER (barCell j) 0 c)
      ∗ bigSep (sigLeft c 0) fun j => iprop(∃ f, rowPts (F := F) c j f)) ⊢ (sigInv c 0 : sProp 𝕄) := by
  unfold sigInv
  rw [bigSep_sep']
  iintro ⟨HO, Ht, Hr⟩
  isplitl [HO]; · iexact HO
  isplitl [Ht] <;> iassumption

/-- What the barrier waits start from. -/
theorem bar_begin :
    iprop(sigInv (F := F) c 7 ∗ levAts L lv ∗ cred (tallyAt (barCell c) () (7 - c.val)) ∗ atPos ER (barCell c) 0 ∅ 0) ⊢ (barInv c 0 : sProp 𝕄) := by
  unfold sigInv barInv
  rw [oweSig_end, add_zero, Nat.zero_min, Nat.sub_zero]
  iintro ⟨⟨HO, -⟩, #Hl, Hc, Ha⟩
  isplitl [HO]; · iexact HO
  isplitr; · iexact Hl
  isplitl [Hc]; · iexact Hc
  iexists ∅
  isplitr
  · ipureintro
    refine ⟨Finset.empty_subset _, ?_⟩
    rw [Finset.sdiff_empty, card_after, Nat.zero_add]
  isplitl [Ha]; · iexact Ha
  rw [bigSep_empty]; iempintro

/-- What the copies start from. -/
theorem send_begin :
    iprop((∃ W, owes (c : Thread nD τ) (oweSend c 0) W)
      ∗ (bigSep (sendLeft c 0) fun d => iprop(dutyTok ER (recvCell d c) 0 c ∗ dutyTok ER (sendCell c d) 0 d))
      ∗ (bigSep Finset.univ fun d => srcPts c (tok d) (sb m ρ c))
      ∗ bigSep (sendLeft c 0) fun d => iprop(∃ f, rowPts (F := F) d c f))
      ⊢ (iprop(sendInv m ρ c 0 ∗ bigSep (Finset.univ \ sendLeft c 0) fun d => srcPts c (tok d) (sb m ρ c)) : sProp 𝕄) := by
  unfold sendInv
  rw [sent_zero, bigSep_empty, take_part (Finset.subset_univ (sendLeft c 0)) (fun d => srcPts c (tok d) (sb m ρ c)),
    bigSep_sep' (sendLeft c 0) (fun d => iprop(dutyTok ER (recvCell d c) 0 c ∗ dutyTok ER (sendCell c d) 0 d)), bigSep_sep' (sendLeft c 0) (fun d => srcPts c (tok d) (sb m ρ c))]
  iintro ⟨HO, Ht, ⟨Hs, Hs'⟩, Hr⟩
  isplitr [Hs']
  · isplitl [HO]; · iexact HO
    isplitl
    · isplitl [Ht]; · iexact Ht
      isplitl [Hs] <;> iassumption
    iempintro
  iexact Hs'

/-- What the receive waits start from. -/
theorem recv_begin :
    iprop(sendInv m ρ c 7 ∗ (bigSep (sigLeft c 0) fun j => cred (tallyAt (recvCell c j) () N)) ∗ bigSep Finset.univ fun j => atPos ER (recvCell c j) 0 ∅ 0)
      ⊢ (iprop(recvInv m ρ c 0 ∗ (bigSep (sendLeft c 0) fun d => cred (tallyAt (sendCell c d) () N))
          ∗ bigSep (Finset.univ \ sigLeft c 0) fun j => atPos ER (recvCell c j) 0 ∅ 0) : sProp 𝕄) := by
  unfold sendInv recvInv
  rw [sent_end, got_zero, bigSep_empty, oweSend_end, take_part (Finset.subset_univ (sigLeft c 0)) (fun j => atPos ER (recvCell c j) 0 ∅ 0),
    bigSep_sep' (sigLeft c 0) (fun j => cred (tallyAt (recvCell c j) () N))]
  iintro ⟨⟨HO, -, Hs⟩, Hc, Ha, Ha'⟩
  isplitr [Hs Ha']
  · isplitl [HO]; · iexact HO
    isplitl
    · isplitl [Hc] <;> iassumption
    iempintro
  isplitl [Hs] <;> iassumption

/-- What the waits for the ends of the copies start from. -/
theorem done_begin :
    iprop((∃ W, owes (c : Thread nD τ) 0 W) ∗ (bigSep (sendLeft c 0) fun d => cred (tallyAt (sendCell c d) () N)) ∗ bigSep Finset.univ fun d => atPos ER (sendCell c d) 0 ∅ 0)
      ⊢ (iprop(doneInv m ρ c 0 ∗ bigSep (Finset.univ \ sendLeft c 0) fun d => atPos ER (sendCell c d) 0 ∅ 0) : sProp 𝕄) := by
  unfold doneInv
  rw [sent_zero, bigSep_empty, take_part (Finset.subset_univ (sendLeft c 0)) (fun d => atPos ER (sendCell c d) 0 ∅ 0),
    bigSep_sep' (sendLeft c 0) (fun d => cred (tallyAt (sendCell c d) () N))]
  iintro ⟨HO, Hc, Ha, Ha'⟩
  isplitr [Ha']
  · isplitl [HO]; · iexact HO
    isplitl
    · isplitl [Hc] <;> iassumption
    iempintro
  iexact Ha'

/-- A list of own cells that have no duty closed together. -/
theorem idle_close (S : Finset (Dev nD)) (q : Dev nD → CellIx)
    (hq : ∀ d ∈ S, ∀ r, 0 ≤ r → (Rd (F := F) m ρ).duties (kcell (c, q d)) r = ∅) :
    iprop(records m ρ K ∗ bigSep S fun d => atPos ER (kcell (c, q d)) 0 ∅ 0)
      ⊢ (|={Set.univ}=> bigSep S fun d => semVal (kcell (c, q d)) 0 : sProp 𝕄) := by
  refine BIBase.Entails.trans ?_ (Rounds.cells_close ER (Rd m ρ) S (fun d => kcell (c, q d)) (fun d => K (c, q d)) (Es := Set.univ)
    (fun _ _ => Set.mem_univ _) (fun _ _ h => h) (fun _ => 0) hq)
  rw [bigSep_sep']
  iintro ⟨#HR, Ha⟩
  isplitr
  · iapply (BI.bigSep_of_persistent S (records m ρ K) |>.trans (bigSep_mono fun d _ => (records_at m ρ K (c, q d)).trans (show _ ⊢ _ from by iintro ⟨H, -⟩; iexact H)))
    iexact HR
  iexact Ha

/-- After the last wait every cell is closed, with its counter at zero. -/
theorem finish :
    iprop(records m ρ K ∗ doneInv m ρ c 7 ∗ (bigSep (Finset.univ \ sendLeft c 0) fun d => atPos ER (sendCell c d) 0 ∅ 0)
        ∗ (bigSep (Finset.univ \ sigLeft c 0) fun j => atPos ER (recvCell c j) 0 ∅ 0)
        ∗ (bigSep (sigLeft c 0) fun j => semVal (recvCell c j) 0) ∗ semVal (barCell c) 0
        ∗ (bigSep (Finset.univ \ sendLeft c 0) fun d => srcPts c (tok d) (sb m ρ c)) ∗ srcRest m ρ c)
      ⊢ (|={Set.univ}=> iprop((∃ W, owes (c : Thread nD τ) 0 W) ∗ (∃ f, bAll c f) ∗ bodyEnd c) : sProp 𝕄) := by
  unfold doneInv bodyEnd
  rw [sent_end, bigSep_sep' (sendLeft c 0) (fun d => semVal (sendCell c d) 0)]
  iintro ⟨#HR, ⟨HO, -, Hzs, Hsrc⟩, Has, Har, Hzr, Hzb, Hsrc', Hrest⟩
  imod (idle_close m ρ K c (Finset.univ \ sendLeft c 0) (fun d => .inr (.inl (slot c d)))
    (fun d hd => duties_send_none m ρ c d fun h => (Finset.mem_sdiff.mp hd).2 (mem_sendLeft.mpr (by omega)))) $$ [Has] with Hzs'
  · isplitr; · iexact HR
    iexact Has
  imod (idle_close m ρ K c (Finset.univ \ sigLeft c 0) (fun j => .inr (.inr j))
    (fun j hj => duties_recv_none m ρ c j fun h => (Finset.mem_sdiff.mp hj).2 (mem_sigLeft.mpr ⟨Nat.zero_le _, h⟩))) $$ [Har] with Hzr'
  · isplitr; · iexact HR
    iexact Har
  imodintro
  isplitl [HO]; · iexact HO
  isplitl [Hsrc Hsrc' Hrest]
  · iapply (src_close m ρ c)
    isplitl [Hsrc Hsrc']
    · rw [take_part (Finset.subset_univ (sendLeft c 0)) (fun d => srcPts c (tok d) (sb m ρ c))]
      isplitl [Hsrc] <;> iassumption
    iexact Hrest
  isplitl [Hzb]; · iexact Hzb
  isplitl [Hzs Hzs']
  · rw [take_part (Finset.subset_univ (sendLeft c 0)) (fun d => semVal (sendCell c d) 0)]
    isplitl [Hzs] <;> iassumption
  rw [take_part (Finset.subset_univ (sigLeft c 0)) (fun j => semVal (recvCell c j) 0)]
  isplitl [Hzr] <;> iassumption

/-! ## The whole kernel -/

set_option maxHeartbeats 4000000 in
/-- The kernel on device `c`: from the launch resources it ends with the result in its output buffer, its block of `x`
    unchanged, nothing owed and every counter at zero. -/
theorem body_spec {Q : PUnit → sProp 𝕄} (fo : (cc0_stg1_0 : Ref sig .tc).ty.Contents (Elt F))
    (fb : (cc0_scratch0 : Ref sig .tc).ty.Contents (Elt F)) (fg : (cc0_scratch1 : Ref sig .tc).ty.Contents (Elt F)) :
    iprop(bodyStart m ρ K c ∗ (∃ W, owes (c : Thread nD τ) (O₀ c) W) ∗ xAll c (xstg m ρ c) ∗ oAll c fo ∗ bAll c fb ∗ gAll c fg)
      ⊢ iprop(((bodyEnd c ∗ (∃ W, owes (c : Thread nD τ) 0 W) ∗ xAll c (xstg m ρ c) ∗ oAll c (outAt m ρ c) ∗ (∃ f, bAll c f) ∗ ∃ f, gAll c f) -∗ Q ⟨⟩)
          -∗ wp frame (wpE (defs₀ (F := F)) 𝒱₀ (c : Thread nD τ) none) Set.univ
              (cc0_body xM (Memref.isWhole_whole _) oM (Memref.isWhole_whole _) bM (Memref.isWhole_whole _) gM (Memref.isWhole_whole _)
                cc0_scratch2 cc0_scratch3) Q) := by
  rw [cc0_body_eq_skeleton]; unfold cc0_body_skel
  obtain ⟨-, -, -, -, -, h6, h7⟩ := after_conds c
  unfold bodyStart
  iintro ⟨⟨#HR, ⟨Hab, Has, Har⟩, ⟨Htb, Hts⟩, Hcb, Hcr, #Hlev⟩, HO, Hx, Ho, Hb, Hg⟩ Hk
  ihave Hg := (rows_open c fg) $$ Hg
  icases Hg with ⟨Hrows, Hidle⟩
  ihave HS := (sig_begin c) $$ [HO Htb Hrows]
  · isplitl [HO]; · iexact HO
    isplitl [Htb] <;> iassumption
  rw [wp_bind]
  iapply (part1_spec m ρ K c fb) $$ [HS Hx Hb]
  · isplitr; · iexact HR
    isplitl [HS]; · iexact HS
    isplitl [Hx] <;> iassumption
  iintro ⟨HS, Hx, Hb⟩
  ihave HS := (bar_begin c) $$ [HS Hcb Hab]
  · isplitl [HS]; · iexact HS
    isplitr; · iexact Hlev
    isplitl [Hcb] <;> iassumption
  dsimp only
  rw [wp_bind]
  iapply (part2_spec m ρ K c fb) $$ [HS Hb]
  · isplitr; · iexact HR
    isplitl [HS] <;> iassumption
  iintro %w ⟨HS, Hb⟩
  imod (bar_end m ρ K c) $$ [HS] with ⟨HO, Hzb, Hrows⟩
  · isplitr; · iexact HR
    iexact HS
  ihave Hb := (src_open m ρ c fb) $$ Hb
  icases Hb with ⟨Htok, Hrest⟩
  ihave HS := (send_begin m ρ c) $$ [HO Hts Htok Hrows]
  · isplitl [HO]; · iexact HO
    isplitl [Hts]; · iexact Hts
    isplitl [Htok] <;> iassumption
  icases HS with ⟨HS, Hkeep⟩
  rw [wp_bind]
  iapply (part3_spec m ρ K c (myWord c) w) $$ [HS]
  · isplitr; · iexact HR
    iexact HS
  iintro HS
  ihave HS := (recv_begin m ρ c) $$ [HS Hcr Har]
  · isplitl [HS]; · iexact HS
    isplitl [Hcr] <;> iassumption
  icases HS with ⟨HS, Hcs, Har⟩
  rw [wp_bind]
  iapply (part4_spec m ρ K c (k0_pay3 (F := F)) fo) $$ [HS Hx Ho Hidle]
  · isplitr; · iexact HR
    isplitl [HS]; · iexact HS
    isplitl [Hx]; · iexact Hx
    isplitl [Ho] <;> iassumption
  iintro %g %hg ⟨HO, Hzr, Hx, Ho, Hg⟩
  ihave HS := (done_begin m ρ c) $$ [HO Hcs Has]
  · isplitl [HO]; · iexact HO
    isplitl [Hcs] <;> iassumption
  icases HS with ⟨HS, Has⟩
  dsimp only
  rw [wp_bind]
  iapply (part5_spec m ρ K c _ _ _ _) $$ [HS Ho]
  · isplitr; · iexact HR
    isplitl [HS] <;> iassumption
  iintro ⟨HS, Ho⟩
  rw [out_eq m ρ c g hg]
  iapply (done_step m ρ K c 5 (by decide) _ h6 _ (sem_send _ 5 rfl _) N_src _) $$ [HS]
  · isplitr; · iexact HR
    iexact HS
  iintro HS
  iapply (done_step m ρ K c 6 (by decide) _ h7 _ (sem_send _ 6 rfl _) N_src _) $$ [HS]
  · isplitr; · iexact HR
    iexact HS
  iintro HS
  imod (finish m ρ K c) $$ [HS Has Har Hzr Hzb Hkeep Hrest] with ⟨HO, Hb, He⟩
  · isplitr; · iexact HR
    isplitl [HS]; · iexact HS
    isplitl [Has]; · iexact Has
    isplitl [Har]; · iexact Har
    isplitl [Hzr]; · iexact Hzr
    isplitl [Hzb]; · iexact Hzb
    isplitl [Hkeep] <;> iassumption
  iapply (pure_step c)
  iapply Hk
  isplitl [He]; · iexact He
  isplitl [HO]; · iexact HO
  isplitl [Hx]; · iexact Hx
  isplitl [Ho]; · iexact Ho
  isplitl [Hb]; · iexact Hb
  iexists g; iexact Hg

end Cert.PrefixSum

end
-- ==== Proof.Deal.lean ====
/-
# `Deal`: what the launch hands out

All cells of all devices are opened at once under one map of names, every device is told of all of them, and the tokens of
the duties go to the devices that pay them. A token is minted for every cell of the exchange and every peer; those of pairs
that never signal or send are simply dropped. The credit tokens come from what the devices owe: summed over the devices, a
barrier cell is owed one unit by each later device, a receive cell one row by the one device that sends to it.
-/
module

public import proofs.«01_k».proof.Proof.Whole

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: eight to send on, eight to receive on. -/
abbrev osem : Fin 8 ⊕ Fin 8 → SemLoc sig := fun k => csem (.inr k)

/-- The kernel's own semaphores are distinct, and none of them is one of the pipeline's. -/
theorem ownSemFacts : Pipeline.OwnSemFacts cfg0.spec osem := by decide

/-- Different cells of a device are different semaphores. -/
theorem csem_injective : Function.Injective csem := by decide

/-- Different cells of the mesh are different semaphores of the mesh. -/
theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]

/-- Every cell of the schedule. -/
def allCells : Finset (GSem nD τ sig) := Finset.univ.map ⟨kcell, kcell_injective⟩

/-- A token's place: the device that owns the cell, and which of its cells towards which peer. -/
abbrev TokIx : Type := Dev nD × (Dev nD ⊕ (Dev nD ⊕ Dev nD))
/-- The duty that a token stands for: its cell, its round and its payer. -/
abbrev tokAt : TokIx → GSem nD τ sig × ℕ × Dev nD
  | (c, .inl d) => (barCell c, 0, d)
  | (c, .inr (.inl d)) => (recvCell c d, 0, d)
  | (c, .inr (.inr d)) => (sendCell c d, 0, d)

/-- Different tokens stand for different duties. -/
theorem tokAt_injective : Function.Injective tokAt := by
  rintro ⟨c, k⟩ ⟨c', k'⟩ h
  have hp : ∀ (c : Dev nD) k, (tokAt (c, k)).1.1.1 = c := by rintro c (d | d | d) <;> rfl
  have hc : c = c' := by rw [← hp c k, ← hp c' k', h]
  subst hc
  rcases k with d | d | d <;> rcases k' with d' | d' | d' <;>
    first
    | exact absurd (congrArg (fun x : GSem nD τ sig × ℕ × Dev nD => x.1.2) h) (by first | exact dma_ne_bar _ | exact (dma_ne_bar _).symm | exact send_ne_recv' _ _ | exact (send_ne_recv' _ _).symm)
    | (have hd : d = d' := congrArg (fun x : GSem nD τ sig × ℕ × Dev nD => x.2.2) h; rw [hd])

/-- Every duty of the schedule. -/
def allToks : Finset (GSem nD τ sig × ℕ × Dev nD) := Finset.univ.map ⟨tokAt, tokAt_injective⟩

/-- The launch's ghost element: the pipeline's, and the exchange's. -/
def u₀ : UU :=
  (initOf (Pipeline.cells cfgs cellOf_inj) (Pipeline.launchToks cfgs cellOf_inj), initOf allCells allToks)

section Pure
omit [FloatOps F]

/-- A separating conjunction over a disjoint union of index types. -/
theorem over_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) :=
  bigSep_univ_sum Φ

/-- A property of a device's cells: of its barrier, its send cells by destination, its receive cells. -/
theorem over_cells (c : Dev nD) (Φ : GSem nD τ sig → sProp 𝕄) :
    (bigSep Finset.univ fun k : CellIx => Φ (kcell (c, k)))
      = iprop(Φ (barCell c) ∗ (bigSep Finset.univ fun d => Φ (sendCell c d)) ∗ bigSep Finset.univ fun j => Φ (recvCell c j)) := by
  rw [over_sum, over_sum, bigSep_univ_equiv (slotEquiv c)]
  congr 1
  rw [show (Finset.univ : Finset Unit) = {()} from rfl]
  exact bigSep_singleton

/-- The duty tokens of device `c`'s own cells, as minted. -/
def minted (c : Dev nD) : sProp 𝕄 :=
  iprop((bigSep Finset.univ fun d => dutyTok ER (barCell c) 0 d)
    ∗ (bigSep Finset.univ fun d => dutyTok ER (recvCell c d) 0 d) ∗ bigSep Finset.univ fun d => dutyTok ER (sendCell c d) 0 d)

/-- The tokens of the duties device `c` pays. -/
def payable (c : Dev nD) : sProp 𝕄 :=
  iprop((bigSep (sigLeft c 0) fun j => dutyTok ER (barCell j) 0 c)
    ∗ bigSep (sendLeft c 0) fun d => iprop(dutyTok ER (recvCell d c) 0 c ∗ dutyTok ER (sendCell c d) 0 d))

/-- A part of a separating conjunction, the rest dropped. -/
theorem keep_part {S T : Finset (Dev nD)} (h : T ⊆ S) (Φ : Dev nD → sProp 𝕄) : bigSep S Φ ⊢ bigSep T Φ := by
  rw [take_part h]
  iintro ⟨H, -⟩
  iexact H

/-- The tokens go from the owners of the cells to the payers. -/
theorem tokens_dealt : (bigSep Finset.univ fun c : Dev nD => (minted c : sProp 𝕄)) ⊢ bigSep Finset.univ fun c : Dev nD => payable c := by
  unfold minted
  rw [bigSep_sep', bigSep_sep', bigSep_univ_comm (fun (c d : Dev nD) => (dutyTok ER (barCell c) 0 d : sProp 𝕄)),
    bigSep_univ_comm (fun (c d : Dev nD) => (dutyTok ER (recvCell c d) 0 d : sProp 𝕄)), ← bigSep_sep', ← bigSep_sep']
  refine bigSep_mono fun c _ => (show _ ⊢ (payable c : sProp 𝕄) from ?_)
  unfold payable
  rw [bigSep_sep']
  iintro ⟨Hb, Hr, Hs⟩
  isplitl [Hb]; · iapply (keep_part (Finset.subset_univ (sigLeft c 0)) fun j => (dutyTok ER (barCell j) 0 c : sProp 𝕄)); iexact Hb
  isplitl [Hr]; · iapply (keep_part (Finset.subset_univ (sendLeft c 0)) fun d => (dutyTok ER (recvCell d c) 0 c : sProp 𝕄)); iexact Hr
  iapply (keep_part (Finset.subset_univ (sendLeft c 0)) fun d => (dutyTok ER (sendCell c d) 0 d : sProp 𝕄)); iexact Hs

end Pure

/-! ## The global step -/

/-- What the launch element gives device `c`. -/
def G (c : Dev nD) : sProp 𝕄 :=
  iprop((bigSep Finset.univ fun k : CellIx => roundState ER (Rd m ρ) (kcell (c, k)) 0)
    ∗ (bigSep Finset.univ fun k : CellIx => iprop(atPos ER (kcell (c, k)) 0 ∅ 0 ∗ reached ER (kcell (c, k)) 0)) ∗ minted c)

/-- What a device holds after the global step: every cell's record, its own positions, the tokens it pays with. -/
def G' (c : Dev nD) : sProp 𝕄 :=
  iprop(∃ K, records m ρ K
    ∗ (atPos ER (barCell c) 0 ∅ 0 ∗ (bigSep Finset.univ fun d => atPos ER (sendCell c d) 0 ∅ 0) ∗ bigSep Finset.univ fun j => atPos ER (recvCell c j) 0 ∅ 0)
    ∗ payable c)

/-- The initial state of the schedule gives each device its part of the cells and tokens. -/
theorem funded : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [over_sum, over_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's one unscoped semaphore is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters at zero: the kernel's own and the barrier's are those of all its cells. -/
theorem counters_eq (c : Dev nD) :
    (bigSep Finset.univ fun k : CellIx => (semVal (kcell (c, k)) 0 : sProp 𝕄))
      = iprop(unscopedSems0 c ∗ Pipeline.ownSems0 (Ix := Unit) (Name := ℕ) (U := UU) (Lvl := ℕ) (Val := Elt F) (τ := τ) osem c) := by
  rw [over_sum, unscopedSems0_eq]
  congr 1
  rw [show (Finset.univ : Finset Unit) = {()} from rfl]
  exact bigSep_singleton

/-- Each device puts its counters, all zero, under the invariants of its cells. -/
theorem opened (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (Entails.of_eq (counters_eq (F := F) c).symm) $$ [Hos Hus]
  · isplitl [Hus] <;> iassumption
  imod (show iprop((bigSep Finset.univ fun k : CellIx => semVal (kcell (c, k)) 0) ∗ bigSep Finset.univ fun k : CellIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What everyone may know can be handed to each. -/
theorem with_everyone {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What was made cell by cell is dealt out again, device by device. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (G' m ρ) := by
  rw [bigSep_sep', bigSep_sep', ← bigSep_univ_prod (fun ck : Dev nD × CellIx => iprop(∃ κ : ℕ, cellInv ER (Rd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd m ρ) κ (kcell ck) : sProp 𝕄))) $$ HI
  icases HK with ⟨%K, #HI⟩
  ihave Htk := (tokens_dealt (F := F)) $$ Htok
  iapply (with_everyone (R := records m ρ K) (Φ := fun c => iprop((bigSep Finset.univ fun k : CellIx => (atPos ER (kcell (c, k)) 0 ∅ 0 : sProp 𝕄)) ∗ payable c))
    fun c _ => show _ ⊢ G' m ρ c from by
      rw [over_cells c (fun g => atPos ER g 0 ∅ 0)]
      unfold G'
      iintro ⟨HR, Ha, Hp⟩
      iexists K
      isplitl [HR]; · iexact HR
      isplitl [Ha] <;> iassumption)
  isplitr
  · unfold records; isplitl; · iexact HI
    iexact HR
  · rw [bigSep_sep']
    isplitl [Hat] <;> iassumption

/-- The global step: the own and unscoped semaphores of all devices at once become cells of the exchange. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => opened m ρ c).trans (bigSep_fupd _ _)).trans (BI.fupd_mono (regroup m ρ))

/-! ## The launch credit -/

section Credit
omit [FloatOps F]

/-- Two barrier cells are equal only on the same device. -/
theorem bar_eq_iff {a b : Dev nD} : (barCell a = barCell b) ↔ (a = b) :=
  ⟨fun h => congrArg (fun g : GSem nD τ sig => g.1.1) h, fun h => h ▸ rfl⟩
/-- Two receive cells are equal only on the same device and for the same sender. -/
theorem recv_eq_iff {a b j k : Dev nD} : (recvCell a j = recvCell b k) ↔ (a = b ∧ j = k) :=
  ⟨fun h => ⟨congrArg (fun g : GSem nD τ sig => g.1.1) h, recvSem_inj.mp (SemLoc.dma.inj (congrArg Prod.snd h))⟩, fun h => by rw [h.1, h.2]⟩

/-- A sum of tallies, read at one cell. -/
theorem tallies_at (S : Finset (Dev nD)) (f : Dev nD → GSem nD τ sig) (n : ℕ) (g : GSem nD τ sig) :
    (∑ j ∈ S, (tallyAt (f j) () n : CellTallies nD τ sig Unit)) g () = ∑ j ∈ S, if g = f j then n else 0 := by
  induction S using Finset.induction_on with
  | empty => rfl
  | insert a S ha ih =>
    rw [Finset.sum_insert ha, Finset.sum_insert ha, Pi.add_apply, Finsupp.add_apply, ih, tallyAt_apply]
    simp

/-- Device `d` owes device `c`'s barrier one unit when it comes after it. -/
theorem owed_bar (d c : Dev nD) : O₀ d (barCell c) () = if d ∈ after c then 1 else 0 := by
  unfold O₀ oweSend oweSig
  rw [Pi.add_apply, Finsupp.add_apply, tallies_at, tallies_at,
    Finset.sum_eq_zero (fun e _ => if_neg fun h => dma_ne_bar _ (congrArg Prod.snd h).symm), Nat.zero_add]
  simp only [bar_eq_iff, Finset.sum_ite_eq, mem_sigLeft, after, Finset.mem_filter, Finset.mem_univ, true_and, Nat.zero_le]

/-- Device `d` owes device `c`'s `j`-th receive cell a row when it is device `j` and comes before `c`. -/
theorem owed_recv (d c j : Dev nD) : O₀ d (recvCell c j) () = if d = j then (if j.val < c.val then N else 0) else 0 := by
  unfold O₀ oweSend oweSig
  rw [Pi.add_apply, Finsupp.add_apply, tallies_at, tallies_at,
    Finset.sum_eq_zero (s := sigLeft d 0) (fun e _ => if_neg fun h => dma_ne_bar _ (congrArg Prod.snd h)), Nat.add_zero]
  simp only [recv_eq_iff]
  by_cases h : d = j
  · subst h
    simp only [and_true, Finset.sum_ite_eq, mem_sendLeft, if_true, Nat.add_zero]
  · rw [if_neg h]
    exact Finset.sum_eq_zero fun e _ => if_neg fun hh => h hh.2.symm

/-- At launch the barrier cell of `c` has one credit for each device after `c`. -/
theorem launch_bar (c : Dev nD) :
    tallyOn (barCell c) (launchCredit (Pipeline.owing O₀) 0 (barCell c)) = (tallyAt (barCell c) () (7 - c.val) : CellTallies nD τ sig Unit) := by
  unfold tallyAt; refine congrArg _ (Finsupp.ext fun u => ?_); cases u
  rw [Pipeline.launchCredit_owing, Finsupp.single_eq_same, Finset.sum_congr rfl fun d _ => owed_bar d c, ← card_after]
  simp

/-- At launch the receive cell of `c` for an earlier device `j` has the credit of one row. -/
theorem launch_recv (c j : Dev nD) (h : j.val < c.val) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ j,
    if_pos (Finset.mem_univ _), if_pos h]

/-- The receive semaphores, one for each sender. -/
def recvLoc : Dev nD ↪ SemLoc sig := ⟨fun j => .dma (recvSem j), fun a b h => recvSem_inj.mp (SemLoc.dma.inj h)⟩

/-- A device's credit from the launch: the units its barrier waits for, and a row for each device before it. -/
theorem creds (c : Dev nD) :
    (Pipeline.launchCred O₀ c : sProp 𝕄)
      ⊢ iprop(cred (tallyAt (barCell c) () (7 - c.val)) ∗ bigSep (sigLeft c 0) fun j => cred (tallyAt (recvCell c j) () N)) := by
  unfold Pipeline.launchCred
  rw [bigSep_univ_at _ (SemLoc.reg barS), launch_bar]
  refine sep_mono_right ?_
  have hsub : (sigLeft c 0).map recvLoc ⊆ (Finset.univ.erase (SemLoc.reg barS) : Finset (SemLoc sig)) := by
    intro s hs
    obtain ⟨j, -, rfl⟩ := Finset.mem_map.mp hs
    exact Finset.mem_erase.mpr ⟨dma_ne_bar _, Finset.mem_univ _⟩
  rw [bigSep_sdiff_split hsub, bigSep_map]
  exact BIBase.Entails.trans sep_elim_left (Entails.of_eq (bigSep_congr fun j hj =>
    congrArg (fun t => (cred t : sProp 𝕄)) (launch_recv c j (mem_sigLeft.mp hj).2)))

end Credit

end Cert.PrefixSum

end
-- ==== Proof.Run.lean ====
/-
# `Run`: the launched kernel, from any memory to its result on every device

The launch hands every device its cells, tokens and credit (`Deal`), the pipeline fetches the block of `x` and flushes the
result around the kernel (`Whole`), and every counter is read back as zero at the end.
-/
module

public import proofs.«01_k».proof.Proof.Deal
public import Idealize.ShloMosaic.Lib.Pipeline.CollectiveSegs
public import Idealize.ShloMosaic.Lib.Pipeline.ValueKit.Geometry

@[expose] public section

set_option maxRecDepth 16384

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device starts the kernel from, its staging buffers aside. -/
def start (c : Dev nD) : sProp 𝕄 := iprop(∃ K, bodyStart m ρ K c)

/-- The two buffers the kernel works in, holding anything. -/
def scratch (c : Dev nD) : sProp 𝕄 := iprop((∃ f, bAll c f) ∗ ∃ f, gAll c f)

/-- What the pipeline is told of the call: its arrays, its buffers' contents and the resources that pass through the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => iprop(start m ρ c ∗ scratch c)
    | ⟨_ + 1, _⟩ => iprop(bodyEnd c ∗ scratch c)
  q _ := fullShare
  owed t := match t with
    | ⟨0, _⟩ => O₀ c
    | ⟨_ + 1, _⟩ => 0

/-- Owning a whole buffer through its view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's block of `x` is in its staging buffer when the kernel starts. -/
theorem before_x (c : Dev nD) (d : (cfg0.win (0 : Fin 2)).block.Idx → Elt F (cfg0.win (0 : Fin 2)).elt) :
    (dats m ρ 0 c).before (0 : Fin 2) t0_0 d = xstg m ρ c := by
  have hf : (cfg0.win (0 : Fin 2)).fetch t0_0 = true := rfl
  unfold Dat.before
  rw [if_pos hf]
  rfl

/-- What the kernel holds when its body starts. -/
def kernelPre (c : Dev nD) : sProp 𝕄 :=
  iprop((start m ρ c ∗ scratch c) ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

/-- What the kernel holds when its body ends. -/
def kernelPost (c : Dev nD) : sProp 𝕄 :=
  iprop((bodyEnd c ∗ scratch c) ∗ (dats m ρ 0 c).owesAt () t0_0.succ ∗ held c cc0_stg0_0 (xstg m ρ c) ∗ held c cc0_stg1_0 (outAt m ρ c))

/-- The kernel between its fetch and its flush. -/
theorem kernel_spec (c : Dev nD) :
    kernelPre m ρ c ⊢ wp frame (wpE (defs₀ (F := F)) 𝒱₀ (c : Thread nD τ) none) Set.univ
      (cc0_body xM (Memref.isWhole_whole _) oM (Memref.isWhole_whole _) bM (Memref.isWhole_whole _) gM (Memref.isWhole_whole _)
        cc0_scratch2 cc0_scratch3) (fun _ => kernelPost m ρ c) := by
  unfold kernelPre start scratch
  iintro ⟨⟨⟨%K, Hs⟩, ⟨%fb, Hb⟩, ⟨%fg, Hg⟩⟩, HO, ⟨%dx, %fx, %hx, Hx⟩, ⟨%do_, %fo, %ho, Ho⟩⟩
  rw [before_x] at hx
  subst hx
  iapply (body_spec m ρ K c (Q := fun _ => kernelPost m ρ c) fo fb fg) $$ [Hs HO Hx Ho Hb Hg]
  · isplitl [Hs]; · iexact Hs
    isplitl [HO]
    · ihave HO := (show (dats m ρ 0 c).owesAt () t0_0.castSucc ⊢ (iprop(∃ W, owes (c : Thread nD τ) (O₀ c) W) : sProp 𝕄) from by
        unfold Dat.owesAt Pipeline.owesWithin
        iintro ⟨%W, -, H⟩
        iexists W; iexact H) $$ HO
      iexact HO
    isplitl [Hx]; · iexact Hx
    isplitl [Ho]; · iexact Ho
    isplitl [Hb] <;> iassumption
  iintro ⟨He, HO, Hx, Ho, Hbg⟩
  unfold kernelPost scratch
  isplitl [He Hbg]
  · isplitl [He] <;> iassumption
  isplitl [HO]
  · iapply (show (iprop(∃ W, owes (c : Thread nD τ) 0 W) : sProp 𝕄) ⊢ (dats m ρ 0 c).owesAt () t0_0.succ from by
      unfold Dat.owesAt Pipeline.owesWithin
      iintro ⟨%W, H⟩
      iexists W
      isplitr; · ipureintro; exact fun _ _ => Or.inl (Set.mem_univ _)
      iexact H) $$ HO
  isplitl [Hx]
  · iexists _; isplitr; · (ipureintro; rfl)
    iexact Hx
  iexists _; isplitr; · (ipureintro; rfl)
  iexact Ho

/-- The pipeline's one grid point runs the kernel. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact kernel_spec m ρ c

/-! ## The launch's side conditions -/

theorem share_eq (c : Dev nD) (w : Fin cfg0.W) : (dats m ρ 0 c).share w = fullShare := by unfold Dat.share; split <;> rfl

/-- The launch's resources for a device give what its kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' payable
  iintro ⟨-, Hlev, Hcr, -, ⟨%K, HR, Hat, Hpay⟩⟩
  ihave Hc := (creds (F := F) c) $$ Hcr
  icases Hc with ⟨Hcb, Hcr⟩
  imodintro
  isplitl
  · unfold start bodyStart
    iexists K
    isplitl [HR]; · iexact HR
    isplitl [Hat]; · iexact Hat
    isplitl [Hpay]; · iexact Hpay
    isplitl [Hcb]; · iexact Hcb
    isplitl [Hcr] <;> iassumption
  · iempintro

/-- What the kernel starts from, with its scratch buffers, enters the pipeline. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs] <;> iassumption

/-- What leaves the pipeline gives back every semaphore at zero and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(bodyEnd c ∗ scratch c) from rfl, scopedRest0_eq]
  unfold bodyEnd scratch
  iintro ⟨He, Hr⟩
  ihave Hc := (Entails.of_eq ((over_cells c (fun g => (semVal g 0 : sProp 𝕄))).symm.trans (counters_eq (F := F) c))) $$ He
  icases Hc with ⟨Hu, Ho⟩
  isplitl [Hu]; · iexact Hu
  isplitl [Ho] <;> iassumption

/-- The pipeline's own waits are allowed beside the exchange. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array on device `c` after the run. -/
def finalA (c : Dev nD) (w : Fin cfg0.W) : Buf (Elt F) ((cfg0.win w).arr.view.loc (c : Thread nD τ)) := (dats m ρ 0 c).arrAt w cfg0.N

/-- On eight devices, for any float values and from any memory with all counters at zero: the program terminates on every
    fair execution, with every window's array at the computed contents and every counter back at zero. -/
theorem run_windows : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (funded m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is unchanged. -/
theorem finalA_x (c : Dev nD) : finalA m ρ c (0 : Fin 2) = m ((c : Thread nD τ).loc main_arg0) :=
  (dats (F := F) m ρ 0 c).arrAt_in (0 : Fin 2) rfl _

/-- The result array ends holding what the kernel left in its output buffer. -/
theorem finalA_out (c : Dev nD) : finalA m ρ c (1 : Fin 2) = outAt m ρ c :=
  (dats m ρ 0 c).arrAt_eq_of_after_last (1 : Fin 2) t0_0 (by decide +kernel) (outAt m ρ c) fun j => rfl

/-- What the kernel reads as its block of `x` is the device's whole argument array. -/
theorem xstg_eq (c : Dev nD) : xstg m ρ c = m ((c : Thread nD τ).loc main_arg0) := by
  funext i
  show m ((c : Thread nD τ).loc main_arg0) ((win0_0.blk t0_0).view.emb i) = _
  congr 1
  funext a
  apply Fin.ext
  exact Window.rect_emb_val_of_index_zero win0_0 t0_0 a (by revert a; decide) i

/-- The run read at the argument and the result. -/
theorem run_main : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_out m ρ c), (h.1 c (0 : Fin 2)).trans (finalA_x m ρ c)⟩, h.2⟩)
    (run_windows m ρ)

end Cert.PrefixSum

end
-- ==== Proof.Sums.lean ====
/-
# `Sums`: prefix sums over a column cut into blocks

Two facts about sums alone, over any commutative addition: a window sum as the host prints a cumulative sum is the sum of
a prefix, and the sum of a prefix of eight blocks is the prefix of its own block plus the whole of every block before it.
-/
module

public import Idealize.ShloMosaic.Lib.ValueLayout
public import Idealize.ShloMosaic.PureOps.Contract

@[expose] public section

noncomputable section

namespace Cert.PrefixSum

open Idealize.ShloMosaic
open Idealize.ShloMosaic.ValueIdx (ix2 sum_idx2)

variable {M : Type} [AddCommMonoid M]

/-- Adding up a list from the left, from any start. -/
theorem foldl_plus {A : Type} (g : A → M) (l : List A) (v : M) : l.foldl (fun r n => r + g n) v = v + (l.map g).sum := by
  induction l generalizing v with
  | nil => simp
  | cons a l ih => rw [List.foldl_cons, ih, List.map_cons, List.sum_cons, add_assoc]

/-- The part of a window of height `n` that ends at row `r` is the prefix up to `r`. -/
theorem window_prefix {n : ℕ} (Y : Fin (n + 1) → M) (r : Fin (n + 1)) :
    (∑ a : Fin (n + 1), if h : n ≤ r.val + a.val ∧ r.val + a.val - n < n + 1 then Y ⟨r.val + a.val - n, h.2⟩ else 0)
      = ∑ i : Fin (n + 1), if i.val ≤ r.val then Y i else 0 := by
  have hr := r.isLt
  have e1 : ∀ a : Fin (n + 1), (if h : n ≤ r.val + a.val ∧ r.val + a.val - n < n + 1 then Y ⟨r.val + a.val - n, h.2⟩ else 0)
      = if n ≤ r.val + a.val then Y ⟨r.val + a.val - n, by have := a.isLt; omega⟩ else 0 := fun a => by
    have ha := a.isLt
    by_cases h : n ≤ r.val + a.val
    · rw [dif_pos ⟨h, by omega⟩, if_pos h]
    · rw [dif_neg (fun hh => h hh.1), if_neg h]
  rw [Finset.sum_congr rfl fun a _ => e1 a, ← Finset.sum_filter, ← Finset.sum_filter]
  refine Finset.sum_bij' (fun a _ => (⟨r.val + a.val - n, by have := a.isLt; omega⟩ : Fin (n + 1)))
    (fun i _ => (⟨n - (r.val - i.val), by omega⟩ : Fin (n + 1))) ?_ ?_ ?_ ?_ ?_
  · intro a ha
    have := a.isLt
    simp only [Finset.mem_filter, Finset.mem_univ, true_and] at ha ⊢
    omega
  · intro i hi
    have := i.isLt
    simp only [Finset.mem_filter, Finset.mem_univ, true_and] at hi ⊢
    omega
  · intro a ha
    have := a.isLt
    simp only [Finset.mem_filter, Finset.mem_univ, true_and] at ha
    apply Fin.ext
    show n - (r.val - (r.val + a.val - n)) = a.val
    omega
  · intro i hi
    have := i.isLt
    simp only [Finset.mem_filter, Finset.mem_univ, true_and] at hi
    apply Fin.ext
    show r.val + (n - (r.val - i.val)) - n = i.val
    omega
  · intro a ha
    rfl

/-- A window sum of the whole height, padded above by one row less, with zero as start and padding: at row `r` it is the
    sum of the column's rows up to `r`. -/
theorem windowSum_apply {n w : ℕ} (x : (⟨2, ![n + 1, w]⟩ : Shape).Idx → M) (init : (⟨0, ![]⟩ : Shape).Idx → M) (hinit : ∀ i, init i = 0)
    (h : (⟨2, ![n + 1, w]⟩ : Shape).ReduceWindows (![n + 1, 1] : Fin 2 → Nat) ![1, 1] ![n, 0] ![0, 0] ⟨2, ![n + 1, w]⟩)
    (hu : 0 < (⟨0, ![]⟩ : Shape).numel) (r : Fin (n + 1)) (b : Fin w) :
    Host.reduceWindow (· + ·) (![n + 1, 1] : Fin 2 → Nat) ![1, 1] ![n, 0] ![0, 0] x init h hu (ix2 r b)
      = ∑ i : Fin (n + 1), if i.val ≤ r.val then x (ix2 i b) else 0 := by
  have hb := b.isLt
  unfold Host.reduceWindow
  dsimp only
  rw [foldl_plus, hinit, zero_add, ← Fin.sum_univ_def]
  classical
  let In (p : (⟨2, ![n + 1, 1]⟩ : Shape).Idx) : Prop :=
    ∀ a : Fin 2, (![n, 0] : Fin 2 → ℕ) a ≤ (ix2 r b a).val * (![1, 1] : Fin 2 → ℕ) a + (p a).val
      ∧ (ix2 r b a).val * (![1, 1] : Fin 2 → ℕ) a + (p a).val - (![n, 0] : Fin 2 → ℕ) a < (⟨2, ![n + 1, w]⟩ : Shape).size a
  let G (p : (⟨2, ![n + 1, 1]⟩ : Shape).Idx) : M := if hin : In p then
    x (fun a => ⟨(ix2 r b a).val * (![1, 1] : Fin 2 → ℕ) a + (p a).val - (![n, 0] : Fin 2 → ℕ) a, (hin a).2⟩) else 0
  have hin (p : (⟨2, ![n + 1, 1]⟩ : Shape).Idx) (hp : In p) :
      G p = x (fun a => ⟨(ix2 r b a).val * (![1, 1] : Fin 2 → ℕ) a + (p a).val - (![n, 0] : Fin 2 → ℕ) a, (hp a).2⟩) := dif_pos hp
  have hout (p : (⟨2, ![n + 1, 1]⟩ : Shape).Idx) (hp : ¬ In p) : G p = 0 := dif_neg hp
  refine (Finset.sum_congr rfl fun q _ => (show _ = G ((⟨2, ![n + 1, 1]⟩ : Shape).rowMajor.symm q) from ?_)).trans
    ((Equiv.sum_comp (⟨2, ![n + 1, 1]⟩ : Shape).rowMajor.symm G).trans ?_)
  · by_cases hq : In ((⟨2, ![n + 1, 1]⟩ : Shape).rowMajor.symm q)
    · exact (dif_pos hq).trans (hin _ hq).symm
    · exact (dif_neg hq).trans (hout _ hq).symm
  rw [sum_idx2, ← window_prefix (fun i => x (ix2 i b)) r]
  refine Finset.sum_congr rfl fun a _ => ?_
  rw [Fin.sum_univ_one]
  by_cases hc : n ≤ r.val + a.val ∧ r.val + a.val - n < n + 1
  · have hq : In (ix2 a (0 : Fin 1)) := by
      intro k
      match k with
      | ⟨0, _⟩ =>
        show n ≤ r.val * 1 + a.val ∧ r.val * 1 + a.val - n < n + 1
        rw [Nat.mul_one]; exact hc
      | ⟨1, _⟩ =>
        show 0 ≤ b.val * 1 + 0 ∧ b.val * 1 + 0 - 0 < w
        omega
    rw [dif_pos hc]
    refine (hin _ hq).trans (congrArg x (funext fun k => Fin.ext ?_))
    match k with
    | ⟨0, _⟩ =>
      show r.val * 1 + a.val - n = r.val + a.val - n
      rw [Nat.mul_one]
    | ⟨1, _⟩ =>
      show b.val * 1 + 0 - 0 = b.val
      omega
  · rw [dif_neg hc]
    exact hout _ fun hq => hc (by
      have h0 : n ≤ r.val * 1 + a.val ∧ r.val * 1 + a.val - n < n + 1 := hq 0
      rw [Nat.mul_one] at h0
      exact h0)

/-- Row `k` of block `d`, in the whole column. -/
def wholeRow (d : Fin 8) (k : Fin 512) : Fin 4096 := ⟨d.val * 512 + k.val, by have := d.isLt; have := k.isLt; omega⟩

/-- A sum over the whole column is the sum over the blocks of the sums over their rows. -/
theorem sum_blocks (Z : Fin 4096 → M) : ∑ g, Z g = ∑ d, ∑ k, Z (wholeRow d k) := by
  rw [← Fintype.sum_prod_type']
  refine (Fintype.sum_equiv (finProdFinEquiv (m := 8) (n := 512)) _ _ fun p => congrArg Z (Fin.ext ?_)).symm
  show p.1.val * 512 + p.2.val = p.2.val + 512 * p.1.val
  omega

/-- The sum of the column up to row `i` of block `c`: block `c`'s own rows up to `i`, and all rows of every block before. -/
theorem prefix_blocks (Y : Fin 4096 → M) (c : Fin 8) (i : Fin 512) :
    (∑ g : Fin 4096, if g.val ≤ (wholeRow c i).val then Y g else 0)
      = (∑ k : Fin 512, if k.val ≤ i.val then Y (wholeRow c k) else 0)
        + ∑ d : Fin 8, if d.val < c.val then ∑ k : Fin 512, Y (wholeRow d k) else 0 := by
  have hi := i.isLt
  have e : ∀ d : Fin 8, (∑ k : Fin 512, if (wholeRow d k).val ≤ (wholeRow c i).val then Y (wholeRow d k) else 0)
      = (if d = c then ∑ k : Fin 512, if k.val ≤ i.val then Y (wholeRow c k) else 0 else 0)
        + if d.val < c.val then ∑ k : Fin 512, Y (wholeRow d k) else 0 := fun d => by
    rcases lt_trichotomy d.val c.val with h | h | h
    · rw [if_neg (fun hh => by rw [hh] at h; exact lt_irrefl _ h), if_pos h, zero_add]
      refine Finset.sum_congr rfl fun k _ => if_pos ?_
      have := k.isLt
      show d.val * 512 + k.val ≤ c.val * 512 + i.val
      omega
    · have hd : d = c := Fin.ext h
      subst hd
      rw [if_pos rfl, if_neg (lt_irrefl _), add_zero]
      refine Finset.sum_congr rfl fun k _ => if_congr ?_ rfl rfl
      show d.val * 512 + k.val ≤ d.val * 512 + i.val ↔ k.val ≤ i.val
      omega
    · rw [if_neg (fun hh => by rw [hh] at h; exact lt_irrefl _ h), if_neg (by omega), add_zero]
      refine Finset.sum_eq_zero fun k _ => if_neg ?_
      have := k.isLt
      show ¬ d.val * 512 + k.val ≤ c.val * 512 + i.val
      omega
  rw [sum_blocks, Finset.sum_congr rfl fun d _ => e d, Finset.sum_add_distrib, Finset.sum_ite_eq' Finset.univ c, if_pos (Finset.mem_univ _)]

end Cert.PrefixSum

end
-- ==== Proof.Value.lean ====
/-
# `Value`: what the kernel computes over the extended reals, and that it is the reference's cumulative sum

On device `c`, at row `i` and column `j`, the kernel's result is the sum of the block's column up to row `i` (the product
with the lower triangle of ones), plus the column sums of all blocks before `c` (the rows that arrived). That is row
`512 c + i` of the cumulative sum of the whole array.
-/
module

public import proofs.«01_k».proof.Proof.Run
public import proofs.«01_k».proof.Proof.Sums
public import proofs.«01_k».proof.Proof.Gen.ReferenceIdeal
public import proofs.«01_k».proof.Proof.Gen.ReferenceIdeal.Run
public import Idealize.ShloMosaic.Lib.MatmulPlain
public import Idealize.ShloMosaic.Lib.WordCmp
public import Idealize.ShloMosaic.Lib.Layout
public import Idealize.ShloMosaic.PureOps.Ideal.Laws

@[expose] public section

set_option maxRecDepth 16384

noncomputable section

namespace Cert.PrefixSum

open Cert.KernelIdeal Cert.KernelIdeal.Gen
open Idealize.ShloMosaic Idealize.ShloMosaic.TcCoe Idealize.SL.Sem
open Idealize.ShloMosaic.ValueIdx (ix1 ix2 ix3 eq_ix2)

/-! ## The kernel's operations, read at an index -/

/-- A unit axis in front of a row changes nothing. -/
theorem row_of_vec (v : FVec Ideal S512 .f32) (a : Fin 1) (b : Fin 512) :
    shapeCast S1x512 v shapeCasts_S512_S1x512 (ix2 a b) = v (ix1 b) :=
  shapeCast_apply v _ _ _ (by
    rw [Shape.rowMajor_val_one, Shape.rowMajor_val_two]
    show b.val = a.val * 512 + b.val
    have := a.isLt
    omega)

/-- The sums of the columns of a matrix with `n` rows and 512 columns. -/
theorem colSum_apply {n : ℕ} (v : FVec Ideal ⟨2, ![n, 512]⟩ .f32) (h : (⟨2, ![n, 512]⟩ : Shape).Reduces [0] S512) (b : Fin 512)
    (hφ : FKind.Formats .f32) (hacc : (0x00000000#32 : BitVec 32) = FKind.add.neutral .f32 hφ) :
    multiReduction .add [0] S512 v 0x00000000#32 h hφ hacc (ix1 b) = ∑ k : Fin n, v (ix2 k b) := by
  refine (Ideal.multiReduction_add_single v _ h hφ hacc _).trans (Finset.sum_congr rfl fun k _ => congrArg v ?_)
  funext a
  match a with
  | ⟨0, _⟩ => rfl
  | ⟨1, _⟩ => rfl

/-- The row a device sends: the sums of the columns of its block. -/
theorem sent_apply (x : Vec Ideal S512x512 .f32) (a : Fin 1) (b : Fin 512) :
    k0_pay2 (k0_pay1 (F := Ideal) x) (ix2 a b) = ∑ k : Fin 512, x (ix2 k b) := by
  unfold k0_pay2 k0_pay1
  dsimp only
  rw [shapeCast_self, row_of_vec, shapeCast_self]
  exact colSum_apply _ _ _ _ _

/-- The triangle: one on and below the diagonal, zero above. -/
theorem tri_apply (i k : Fin 512) : k0_pay3 (F := Ideal) (ix2 i k) = if k.val ≤ i.val then 1 else 0 := by
  have hi := i.isLt
  have hk := k.isLt
  show (((BitVec.setWidth 32 (IntOp.cmpi .sge (BitVec.ofNat 32 (0 * 512 + i.val)) (BitVec.ofNat 32 (0 * 512 + k.val)))).toInt : ℝ) : EReal) = _
  rw [WordCmp.cmpi_sge_ofNat (by omega) (by omega)]
  by_cases h : k.val ≤ i.val
  · rw [if_pos h, decide_eq_true (by omega)]
    have e : (BitVec.setWidth 32 (BitVec.ofBool true)).toInt = 1 := by decide
    rw [e]
    norm_num
  · rw [if_neg h, decide_eq_false (by omega)]
    norm_num

/-- The product with the triangle: the sum of the column up to the row. -/
theorem local_apply (x : Vec Ideal S512x512 .f32) (i j : Fin 512) :
    k0_pay4 (k0_pay3 (F := Ideal)) x (ix2 i j) = ∑ k : Fin 512, if k.val ≤ i.val then x (ix2 k j) else 0 := by
  unfold k0_pay4
  rw [shapeCast_self]
  refine (Ideal.matmul_plain_apply none _ _ _ i j).trans ?_
  rw [show (constant S512x512 .f32 0x00000000#32 : FVec Ideal S512x512 .f32) (ix2 i j) = 0 from by
    show Ideal.ofBits .f32 0 = 0
    simp [Ideal.ofBits, Ideal.ieee], zero_add]
  refine Finset.sum_congr rfl fun k _ => ?_
  rw [tri_apply]
  by_cases h : k.val ≤ i.val
  · rw [if_pos h, if_pos h, one_mul]
  · rw [if_neg h, if_neg h, zero_mul]

/-- The last step: to every row is added the sum of the selected rows that arrived. -/
theorem total_apply (g : FVec Ideal S8x512 .f32) (p : IVec S8x512 1) (y : Vec Ideal S512x512 .f32) (i j : Fin 512) :
    k0_pay7 g p (Scalar.ofBits .f32 0x00000000#32) y (ix2 i j)
      = y (ix2 i j) + ∑ d : Fin 8, if p (ix2 d j) = 1#1 then g (ix2 d j) else 0 := by
  unfold k0_pay7
  dsimp only
  rw [shapeCast_self]
  show y (ix2 i j) + shapeCast S1x512 _ shapeCasts_S512_S1x512 (ix2 0 j) = _
  rw [row_of_vec]
  refine congrArg (y (ix2 i j) + ·) ((colSum_apply (n := 8) _ _ j _ _).trans (Finset.sum_congr rfl fun d _ => ?_))
  show (if p (ix2 d j) = 1#1 then g (ix2 d j) else Ideal.ofBits .f32 0) = _
  rw [show Ideal.ofBits .f32 0 = 0 from by simp [Ideal.ofBits, Ideal.ieee]]

/-! ## The kernel's result -/

variable (m : (ℓ : Loc nD τ sig) → Buf (Elt Ideal) ℓ) (ρ : Dev nD → PrngReg)

/-- Device `c`'s block of `x`, as a matrix. -/
def xAt (c : Dev nD) : FVec Ideal S512x512 .f32 := xstg m ρ c

/-- The kernel's result on device `c`, in terms of every device's block. -/
theorem outAt_apply (c : Dev nD) (i j : Fin 512) :
    (outAt m ρ c : FVec Ideal S512x512 .f32) (ix2 i j) = (∑ k : Fin 512, if k.val ≤ i.val then xAt m ρ c (ix2 k j) else 0)
      + ∑ d : Fin 8, if d.val < c.val then ∑ k : Fin 512, xAt m ρ d (ix2 k j) else 0 := by
  unfold outAt
  rw [total_apply, local_apply]
  refine congrArg (_ + ·) (Finset.sum_congr rfl fun d _ => if_congr (mask_at c _) ?_ rfl)
  rw [gathered_at]
  exact sent_apply _ _ _

/-! ## The reference, and the equation -/

/-- The reference's value: the cumulative sums of the columns of the whole array. -/
def refOut (X : FVec Ideal ⟨2, ![4096, 512]⟩ .f32) : FVec Ideal ⟨2, ![4096, 512]⟩ .f32 :=
  Host.reduceWindowAdd ![4096, 1] ![1, 1] ![4095, 0] ![0, 0] X
    (broadcastInDim Cert.ReferenceIdeal.S_ ![] Cert.ReferenceIdeal.Gen.bcast_S_S_ (constant Cert.ReferenceIdeal.S_ .f32 0x00000000#32))
    Cert.ReferenceIdeal.Gen.reduceWindows_S4096x512_S4096x512_w4096s1p4095_0_w1s1p0_0 Cert.ReferenceIdeal.Gen.h_S_

/-- Over the extended reals, a window sum of the whole height `N`, padded above by one row less, from zero: at row `r`
    the sum of the column's rows up to `r`. -/
theorem windowAdd_apply {N n w : ℕ} (hN : N = n + 1) {u : Shape} (X : FVec Ideal ⟨2, ![N, w]⟩ .f32) (init : FVec Ideal u .f32)
    (hinit : ∀ i, init i = (0 : EReal))
    (h : (⟨2, ![N, w]⟩ : Shape).ReduceWindows (![N, 1] : Fin 2 → Nat) ![1, 1] ![n, 0] ![0, 0] ⟨2, ![N, w]⟩)
    (hu : 0 < u.numel) (r : Fin N) (j : Fin w) :
    Host.reduceWindowAdd (![N, 1] : Fin 2 → Nat) ![1, 1] ![n, 0] ![0, 0] X init h hu (ix2 r j)
      = ∑ g : Fin N, if g.val ≤ r.val then (X (ix2 g j) : EReal) else 0 := by
  subst hN
  exact windowSum_apply (M := EReal) X (fun _ => init (Shape.Idx.first hu)) (fun _ => hinit _) h (by decide) r j

/-- The reference's value at row `r` and column `j`: the sum of the column's rows up to `r`. -/
theorem refOut_apply (X : FVec Ideal ⟨2, ![4096, 512]⟩ .f32) (r : Fin 4096) (j : Fin 512) :
    refOut X (ix2 r j) = ∑ g : Fin 4096, if g.val ≤ r.val then X (ix2 g j) else 0 :=
  windowAdd_apply (N := 4096) (n := 4095) (w := 512) (by norm_num) X _ (fun _ => by
    show Ideal.ofBits .f32 0 = 0
    simp [Ideal.ofBits, Ideal.ieee]) _ _ r j

/-- Where every device's block is its part of the whole array, the kernel's result on device `c` is block `c` of the
    reference's. -/
theorem outAt_eq (X : FVec Ideal ⟨2, ![4096, 512]⟩ .f32) (h : Layout.Tiles ⟨2, ![512, 512]⟩ ⟨2, ![4096, 512]⟩ 0 8)
    (hX : ∀ c : Dev nD, m ((c : Thread nD τ).loc main_arg0) = Layout.block ⟨2, ![512, 512]⟩ ⟨2, ![4096, 512]⟩ 0 8 c X h) (c : Dev nD) :
    outAt m ρ c = Layout.block ⟨2, ![512, 512]⟩ ⟨2, ![4096, 512]⟩ 0 8 c (refOut X) h := by
  have hidx : ∀ (d : Fin 8) (a b : Fin 512), h.idx d (ix2 a b) = ix2 (wholeRow d a) b := fun d a b => by
    funext q
    match q with
    | ⟨0, _⟩ => rfl
    | ⟨1, _⟩ => rfl
  have hx : ∀ (d : Fin 8) (a b : Fin 512), xAt m ρ d (ix2 a b) = X (ix2 (wholeRow d a) b) := fun d a b => by
    unfold xAt
    rw [xstg_eq, hX, Layout.block_apply, hidx]
  have hy : ∀ i j : Fin 512, (outAt m ρ c : FVec Ideal S512x512 .f32) (ix2 i j)
      = Layout.block ⟨2, ![512, 512]⟩ ⟨2, ![4096, 512]⟩ 0 8 c (refOut X) h (ix2 i j) := fun i j => by
    rw [outAt_apply, Layout.block_apply, hidx, refOut_apply, prefix_blocks (fun g => X (ix2 g j)) c i]
    simp only [hx]
  funext y
  have e := eq_ix2 (n0 := 512) (n1 := 512) y
  exact (congrArg (outAt m ρ c : FVec Ideal S512x512 .f32) e).trans ((hy _ _).trans
    (congrArg (Layout.block ⟨2, ![512, 512]⟩ ⟨2, ![4096, 512]⟩ 0 8 c (refOut X) h) e.symm))

end Cert.PrefixSum

end
-- ==== Proof.lean ====
/-
# The claims about the prefix-sum kernel

The kernel's run is proved once for any float values (`Cert.PrefixSum.run_main`). Its frame is read at the bit patterns
and at the extended reals. The value claim joins the kernel's result (`Cert.PrefixSum.outAt_eq`) with the reference's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run's frame, for any float values: the argument unchanged and every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (Cert.PrefixSum.run_main m ρ)

/-- The two printings of the kernel have the same body table. -/
theorem bodies_eq {F : FTy → Type} [FloatOps F] : Cert.Kernel.defs₀ (F := F) = Cert.KernelIdeal.defs₀ (F := F) := by
  refine congrArg Defs.onTc (funext fun l => funext fun a => ?_)
  match l, a with
  | 0, (t, s) => rfl

/-- The two printings of the kernel have the same table of bodies and pipelines. -/
theorem defs_eq {F : FTy → Type} [FloatOps F] : Cert.Kernel.defs (F := F) = Cert.KernelIdeal.defs (F := F) :=
  congrArg (Pipeline.defs Cert.Kernel.pcfgs) bodies_eq

/-- The kernel over bit patterns ends with its argument unchanged and every counter at zero. -/
theorem frame_kernel : Cert.quiescent_Kernel := fun m ρ _ => by
  rw [defs_eq]
  exact frame_any (F := Bits) m ρ

/-- The kernel over the extended reals ends with its argument unchanged and every counter at zero. -/
theorem frame_ideal : Cert.quiescent_KernelIdeal := fun m ρ _ => frame_any (F := Ideal) m ρ

/-- The reference ends with its argument unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, each device's result is its block of the cumulative sum of the whole array. -/
theorem value : Cert.algebraic_KernelIdeal_ReferenceIdeal := by
  intro m ρ m' ρ' _ hX
  refine ⟨Cert.PrefixSum.refOut (m' (((0 : Dev Cert.ReferenceIdeal.nD).tc : Thread _ Cert.ReferenceIdeal.τ).loc Cert.ReferenceIdeal.main_arg0)), ?_, ?_⟩
  · exact (θ_run Cert.KernelIdeal.defs _ _).mono
      (fun _ h c => ⟨((h.1 c).1).trans (Cert.PrefixSum.outAt_eq m ρ _ _ hX c), (h.1 c).2⟩)
      (Cert.PrefixSum.run_main (F := Ideal) m ρ)
  · exact (θ_run Cert.ReferenceIdeal.defs _ _).mono (fun _ h => h 0) (Cert.ReferenceIdeal.Value.run (F := Ideal) m' ρ')

/-- Every claim. -/
theorem claim : Cert.Claim := ⟨Cert.Kernel.Gen.facts, Cert.KernelIdeal.Gen.facts, Cert.ReferenceIdeal.Gen.facts,
  frame_kernel, frame_ideal, frame_reference, trivial, value⟩

end Cert.Proof

end
